-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gating_KernelIdeal [hPre_finite_gating_KernelIdeal : Cert.Pre_finite_gating_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gating_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gating_ReferenceIdeal [hPre_finite_gating_ReferenceIdeal : Cert.Pre_finite_gating_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gating_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gating_KernelIdeal [hKernelIdeal : Cert.KernelIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gating_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gating_ReferenceIdeal [hReferenceIdeal : Cert.ReferenceIdeal.Facts] [hPre_finite_gating_ReferenceIdeal : Cert.Pre_finite_gating_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gating_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gating_KernelIdeal [hKernelIdeal : Cert.KernelIdeal.Facts] [hReferenceIdeal : Cert.ReferenceIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gating_KernelIdeal m →
    (∀ c : Dev Cert.KernelIdeal.nD,
      m ((c.tc : Thread Cert.KernelIdeal.nD Cert.KernelIdeal.τ).loc Cert.KernelIdeal.main_arg0) = Layout.block ⟨2, ![128, 512]⟩ ⟨2, ![512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2]⟩ ⟨2, ![512, 8]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![8, 512, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![8, 1024, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v266)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v266) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gating_KernelIdeal : Cert.Pre_finite_gating_KernelIdeal.Facts) (hPre_finite_gating_ReferenceIdeal : Cert.Pre_finite_gating_ReferenceIdeal.Facts),
    quiescent_Kernel (hKernel := hKernel)
    ∧ quiescent_KernelIdeal (hKernelIdeal := hKernelIdeal)
    ∧ quiescent_KernelIdeal_pre_finite_gating_KernelIdeal (hKernelIdeal := hKernelIdeal) (hPre_finite_gating_KernelIdeal := hPre_finite_gating_KernelIdeal)
    ∧ quiescent_ReferenceIdeal (hReferenceIdeal := hReferenceIdeal)
    ∧ quiescent_ReferenceIdeal_pre_finite_gating_ReferenceIdeal (hReferenceIdeal := hReferenceIdeal) (hPre_finite_gating_ReferenceIdeal := hPre_finite_gating_ReferenceIdeal)
    ∧ preserves_Kernel_KernelIdeal
    ∧ algebraic_KernelIdeal_ReferenceIdeal_pre_finite_gating_KernelIdeal (hKernelIdeal := hKernelIdeal) (hReferenceIdeal := hReferenceIdeal) (hPre_finite_gating_KernelIdeal := hPre_finite_gating_KernelIdeal)
-- ==== Pre_finite_gating_KernelIdeal.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S128x512 .f32) (main_arg1 : FVec F S512x2 .f32) (main_arg2 : FVec F S2x512x1024 .f32) (main_arg3 : FVec F S2x1024x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Pre_finite_gating_ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_

variable [Facts]

def fn {F : FTy → Type} [FloatOps F] (main_arg0 : FVec F S512x512 .f32) (main_arg1 : FVec F S512x8 .f32) (main_arg2 : FVec F S8x512x1024 .f32) (main_arg3 : FVec F S8x1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  main_v8
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x512x2 : Shape := ⟨3, ![4, 512, 2]⟩
abbrev S4x128x8 : Shape := ⟨3, ![4, 128, 8]⟩
abbrev S4 : Shape := ⟨1, ![4]⟩
abbrev S_ : Shape := ⟨0, ![]⟩
abbrev S1x128x512 : Shape := ⟨3, ![1, 128, 512]⟩
abbrev S1x512x2 : Shape := ⟨3, ![1, 512, 2]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S512x8 : Shape := ⟨2, ![512, 8]⟩
abbrev S128x8 : Shape := ⟨2, ![128, 8]⟩
abbrev S128 : Shape := ⟨1, ![128]⟩
abbrev S128x1 : Shape := ⟨2, ![128, 1]⟩
abbrev S1x128x8 : Shape := ⟨3, ![1, 128, 8]⟩
abbrev S128x1024 : Shape := ⟨2, ![128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S4x128x512, .bf16⟩
  | .local _ .vmem, ⟨6, _⟩ => ⟨S4x512x2, .f32⟩
  | .local _ .vmem, ⟨7, _⟩ => ⟨S4x128x8, .f32⟩
  | .local _ .vmem, ⟨8, _⟩ => ⟨S4x128x512, .bf16⟩
  | .local _ .vmem, ⟨9, _⟩ => ⟨S4x128x512, .bf16⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : Index := Scalar.indexCast v2
  let c0_29 : Index := 0#32
  let c0_30 : Index := 0#32
  ![v46.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v52 : Index := Scalar.indexCast v2
  let c0_33 : Index := 0#32
  let c0_34 : Index := 0#32
  ![v52.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_46 : BitVec 32 := 0#32
  let c0_i32_47 : BitVec 32 := 0#32
  ![v2.toNat, 0, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v56 : BitVec 32 := Scalar.addi v2 c1_i32_35
  let c4_i32_36 : BitVec 32 := 4#32
  let c0_i32_37 : BitVec 32 := 0#32
  let v57 : BitVec 1 := Scalar.cmpi .eq c4_i32_36 c0_i32_37
  let c1_i32_38 : BitVec 32 := 1#32
  let v58 : BitVec 32 := Scalar.select v57 c1_i32_38 c4_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_44 : BitVec 32 := 1#32
  let v67 : BitVec 32 := Scalar.muli v66 c1_i32_44
  let v68 : BitVec 32 := Scalar.addi c0_i32_45 v67
  v68.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v56 : BitVec 32 := Scalar.addi v2 c1_i32_35
  let c4_i32_36 : BitVec 32 := 4#32
  let c0_i32_37 : BitVec 32 := 0#32
  let v57 : BitVec 1 := Scalar.cmpi .eq c4_i32_36 c0_i32_37
  let c1_i32_38 : BitVec 32 := 1#32
  let v58 : BitVec 32 := Scalar.select v57 c1_i32_38 c4_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_52 : BitVec 32 := 1#32
  let v77 : BitVec 32 := Scalar.muli v66 c1_i32_52
  let v78 : BitVec 32 := Scalar.addi c0_i32_53 v77
  v78.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v87 : BitVec 32 := Scalar.addi v2 c2_i32_58
  let c4_i32_59 : BitVec 32 := 4#32
  let c0_i32_60 : BitVec 32 := 0#32
  let v88 : BitVec 1 := Scalar.cmpi .eq c4_i32_59 c0_i32_60
  let c1_i32_61 : BitVec 32 := 1#32
  let v89 : BitVec 32 := Scalar.select v88 c1_i32_61 c4_i32_59
  let v90 : BitVec 32 := Scalar.remsi v87 v89
  let c0_i32_63 : BitVec 32 := 0#32
  let v92 : BitVec 1 := Scalar.cmpi .slt v90 c0_i32_63
  let c0_i32_64 : BitVec 32 := 0#32
  let v93 : BitVec 1 := Scalar.cmpi .slt v89 c0_i32_64
  let v94 : BitVec 1 := Scalar.xori v92 v93
  let c0_i32_62 : BitVec 32 := 0#32
  let v91 : BitVec 1 := Scalar.cmpi .ne v90 c0_i32_62
  let v95 : BitVec 1 := Scalar.andi v94 v91
  let v96 : BitVec 32 := Scalar.addi v90 v89
  let v97 : BitVec 32 := Scalar.select v95 v96 v90
  let c1_i32_67 : BitVec 32 := 1#32
  let v98 : BitVec 32 := Scalar.muli v97 c1_i32_67
  let v99 : BitVec 32 := Scalar.addi c0_i32_68 v98
  v99.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v87 : BitVec 32 := Scalar.addi v2 c2_i32_58
  let c4_i32_59 : BitVec 32 := 4#32
  let c0_i32_60 : BitVec 32 := 0#32
  let v88 : BitVec 1 := Scalar.cmpi .eq c4_i32_59 c0_i32_60
  let c1_i32_61 : BitVec 32 := 1#32
  let v89 : BitVec 32 := Scalar.select v88 c1_i32_61 c4_i32_59
  let v90 : BitVec 32 := Scalar.remsi v87 v89
  let c0_i32_63 : BitVec 32 := 0#32
  let v92 : BitVec 1 := Scalar.cmpi .slt v90 c0_i32_63
  let c0_i32_64 : BitVec 32 := 0#32
  let v93 : BitVec 1 := Scalar.cmpi .slt v89 c0_i32_64
  let v94 : BitVec 1 := Scalar.xori v92 v93
  let c0_i32_62 : BitVec 32 := 0#32
  let v91 : BitVec 1 := Scalar.cmpi .ne v90 c0_i32_62
  let v95 : BitVec 1 := Scalar.andi v94 v91
  let v96 : BitVec 32 := Scalar.addi v90 v89
  let v97 : BitVec 32 := Scalar.select v95 v96 v90
  let c1_i32_75 : BitVec 32 := 1#32
  let v108 : BitVec 32 := Scalar.muli v97 c1_i32_75
  let v109 : BitVec 32 := Scalar.addi c0_i32_76 v108
  v109.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_81 : BitVec 32 := 3#32
  let v118 : BitVec 32 := Scalar.addi v2 c3_i32_81
  let c4_i32_82 : BitVec 32 := 4#32
  let c0_i32_83 : BitVec 32 := 0#32
  let v119 : BitVec 1 := Scalar.cmpi .eq c4_i32_82 c0_i32_83
  let c1_i32_84 : BitVec 32 := 1#32
  let v120 : BitVec 32 := Scalar.select v119 c1_i32_84 c4_i32_82
  let v121 : BitVec 32 := Scalar.remsi v118 v120
  let c0_i32_86 : BitVec 32 := 0#32
  let v123 : BitVec 1 := Scalar.cmpi .slt v121 c0_i32_86
  let c0_i32_87 : BitVec 32 := 0#32
  let v124 : BitVec 1 := Scalar.cmpi .slt v120 c0_i32_87
  let v125 : BitVec 1 := Scalar.xori v123 v124
  let c0_i32_85 : BitVec 32 := 0#32
  let v122 : BitVec 1 := Scalar.cmpi .ne v121 c0_i32_85
  let v126 : BitVec 1 := Scalar.andi v125 v122
  let v127 : BitVec 32 := Scalar.addi v121 v120
  let v128 : BitVec 32 := Scalar.select v126 v127 v121
  let c1_i32_90 : BitVec 32 := 1#32
  let v129 : BitVec 32 := Scalar.muli v128 c1_i32_90
  let v130 : BitVec 32 := Scalar.addi c0_i32_91 v129
  v130.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_81 : BitVec 32 := 3#32
  let v118 : BitVec 32 := Scalar.addi v2 c3_i32_81
  let c4_i32_82 : BitVec 32 := 4#32
  let c0_i32_83 : BitVec 32 := 0#32
  let v119 : BitVec 1 := Scalar.cmpi .eq c4_i32_82 c0_i32_83
  let c1_i32_84 : BitVec 32 := 1#32
  let v120 : BitVec 32 := Scalar.select v119 c1_i32_84 c4_i32_82
  let v121 : BitVec 32 := Scalar.remsi v118 v120
  let c0_i32_86 : BitVec 32 := 0#32
  let v123 : BitVec 1 := Scalar.cmpi .slt v121 c0_i32_86
  let c0_i32_87 : BitVec 32 := 0#32
  let v124 : BitVec 1 := Scalar.cmpi .slt v120 c0_i32_87
  let v125 : BitVec 1 := Scalar.xori v123 v124
  let c0_i32_85 : BitVec 32 := 0#32
  let v122 : BitVec 1 := Scalar.cmpi .ne v121 c0_i32_85
  let v126 : BitVec 1 := Scalar.andi v125 v122
  let v127 : BitVec 32 := Scalar.addi v121 v120
  let v128 : BitVec 32 := Scalar.select v126 v127 v121
  let c1_i32_98 : BitVec 32 := 1#32
  let v139 : BitVec 32 := Scalar.muli v128 c1_i32_98
  let v140 : BitVec 32 := Scalar.addi c0_i32_99 v139
  v140.toNat
def k0_off5 (d0 : Dev nD) (c1_i32_115 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v161 : BitVec 32 := Scalar.subi v2 c1_i32_115
  let c4_i32_116 : BitVec 32 := 4#32
  let c0_i32_117 : BitVec 32 := 0#32
  let v162 : BitVec 1 := Scalar.cmpi .eq c4_i32_116 c0_i32_117
  let c1_i32_118 : BitVec 32 := 1#32
  let v163 : BitVec 32 := Scalar.select v162 c1_i32_118 c4_i32_116
  let v164 : BitVec 32 := Scalar.remsi v161 v163
  let c0_i32_120 : BitVec 32 := 0#32
  let v166 : BitVec 1 := Scalar.cmpi .slt v164 c0_i32_120
  let c0_i32_121 : BitVec 32 := 0#32
  let v167 : BitVec 1 := Scalar.cmpi .slt v163 c0_i32_121
  let v168 : BitVec 1 := Scalar.xori v166 v167
  let c0_i32_119 : BitVec 32 := 0#32
  let v165 : BitVec 1 := Scalar.cmpi .ne v164 c0_i32_119
  let v169 : BitVec 1 := Scalar.andi v168 v165
  let v170 : BitVec 32 := Scalar.addi v164 v163
  let v171 : BitVec 32 := Scalar.select v169 v170 v164
  let c0_i32_126 : BitVec 32 := 0#32
  let c0_i32_127 : BitVec 32 := 0#32
  ![v171.toNat, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : Index := Scalar.indexCast v2
  let c0_175 : Index := 0#32
  let c0_176 : Index := 0#32
  ![v270.toNat, 0, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_188 : BitVec 32 := 0#32
  let c0_i32_189 : BitVec 32 := 0#32
  ![v2.toNat, 0, 0]
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v274 : BitVec 32 := Scalar.addi v2 c1_i32_177
  let c4_i32_178 : BitVec 32 := 4#32
  let c0_i32_179 : BitVec 32 := 0#32
  let v275 : BitVec 1 := Scalar.cmpi .eq c4_i32_178 c0_i32_179
  let c1_i32_180 : BitVec 32 := 1#32
  let v276 : BitVec 32 := Scalar.select v275 c1_i32_180 c4_i32_178
  let v277 : BitVec 32 := Scalar.remsi v274 v276
  let c0_i32_182 : BitVec 32 := 0#32
  let v279 : BitVec 1 := Scalar.cmpi .slt v277 c0_i32_182
  let c0_i32_183 : BitVec 32 := 0#32
  let v280 : BitVec 1 := Scalar.cmpi .slt v276 c0_i32_183
  let v281 : BitVec 1 := Scalar.xori v279 v280
  let c0_i32_181 : BitVec 32 := 0#32
  let v278 : BitVec 1 := Scalar.cmpi .ne v277 c0_i32_181
  let v282 : BitVec 1 := Scalar.andi v281 v278
  let v283 : BitVec 32 := Scalar.addi v277 v276
  let v284 : BitVec 32 := Scalar.select v282 v283 v277
  let c1_i32_186 : BitVec 32 := 1#32
  let v285 : BitVec 32 := Scalar.muli v284 c1_i32_186
  let v286 : BitVec 32 := Scalar.addi c0_i32_187 v285
  v286.toNat
def k0_dev11 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_192 : BitVec 32 := 2#32
  let v295 : BitVec 32 := Scalar.addi v2 c2_i32_192
  let c4_i32_193 : BitVec 32 := 4#32
  let c0_i32_194 : BitVec 32 := 0#32
  let v296 : BitVec 1 := Scalar.cmpi .eq c4_i32_193 c0_i32_194
  let c1_i32_195 : BitVec 32 := 1#32
  let v297 : BitVec 32 := Scalar.select v296 c1_i32_195 c4_i32_193
  let v298 : BitVec 32 := Scalar.remsi v295 v297
  let c0_i32_197 : BitVec 32 := 0#32
  let v300 : BitVec 1 := Scalar.cmpi .slt v298 c0_i32_197
  let c0_i32_198 : BitVec 32 := 0#32
  let v301 : BitVec 1 := Scalar.cmpi .slt v297 c0_i32_198
  let v302 : BitVec 1 := Scalar.xori v300 v301
  let c0_i32_196 : BitVec 32 := 0#32
  let v299 : BitVec 1 := Scalar.cmpi .ne v298 c0_i32_196
  let v303 : BitVec 1 := Scalar.andi v302 v299
  let v304 : BitVec 32 := Scalar.addi v298 v297
  let v305 : BitVec 32 := Scalar.select v303 v304 v298
  let c1_i32_201 : BitVec 32 := 1#32
  let v306 : BitVec 32 := Scalar.muli v305 c1_i32_201
  let v307 : BitVec 32 := Scalar.addi c0_i32_202 v306
  v307.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_207 : BitVec 32 := 3#32
  let v316 : BitVec 32 := Scalar.addi v2 c3_i32_207
  let c4_i32_208 : BitVec 32 := 4#32
  let c0_i32_209 : BitVec 32 := 0#32
  let v317 : BitVec 1 := Scalar.cmpi .eq c4_i32_208 c0_i32_209
  let c1_i32_210 : BitVec 32 := 1#32
  let v318 : BitVec 32 := Scalar.select v317 c1_i32_210 c4_i32_208
  let v319 : BitVec 32 := Scalar.remsi v316 v318
  let c0_i32_212 : BitVec 32 := 0#32
  let v321 : BitVec 1 := Scalar.cmpi .slt v319 c0_i32_212
  let c0_i32_213 : BitVec 32 := 0#32
  let v322 : BitVec 1 := Scalar.cmpi .slt v318 c0_i32_213
  let v323 : BitVec 1 := Scalar.xori v321 v322
  let c0_i32_211 : BitVec 32 := 0#32
  let v320 : BitVec 1 := Scalar.cmpi .ne v319 c0_i32_211
  let v324 : BitVec 1 := Scalar.andi v323 v320
  let v325 : BitVec 32 := Scalar.addi v319 v318
  let v326 : BitVec 32 := Scalar.select v324 v325 v319
  let c1_i32_216 : BitVec 32 := 1#32
  let v327 : BitVec 32 := Scalar.muli v326 c1_i32_216
  let v328 : BitVec 32 := Scalar.addi c0_i32_217 v327
  v328.toNat
def k0_off8 (d0 : Dev nD) (c1_i32_243 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v382 : BitVec 32 := Scalar.subi v2 c1_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let c0_i32_254 : BitVec 32 := 0#32
  let c0_i32_255 : BitVec 32 := 0#32
  ![v392.toNat, 0, 0]
def k0_off9 (d0 : Dev nD) (c1_i32_243 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v382 : BitVec 32 := Scalar.subi v2 c1_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let v401 : Index := Scalar.indexCast v392
  let c0_258 : Index := 0#32
  let c0_259 : Index := 0#32
  ![v401.toNat, 0, 0]
def k0_off10 (d0 : Dev nD) (c1_i32_243 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v382 : BitVec 32 := Scalar.subi v2 c1_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let c0_i32_264 : BitVec 32 := 0#32
  let c0_i32_265 : BitVec 32 := 0#32
  ![v392.toNat, 0, 0]
def k0_off11 (d0 : Dev nD) (c1_i32_243 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v382 : BitVec 32 := Scalar.subi v2 c1_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let v412 : Index := Scalar.indexCast v392
  let c0_268 : Index := 0#32
  let c0_269 : Index := 0#32
  ![v412.toNat, 0, 0]
def k0_dev13 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_243 : BitVec 32 := 1#32
  let v382 : BitVec 32 := Scalar.subi v2 c1_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let c1_i32_289 : BitVec 32 := 1#32
  let v453 : BitVec 32 := Scalar.muli v392 c1_i32_289
  let v454 : BitVec 32 := Scalar.addi c0_i32_290 v453
  v454.toNat
def k0_dev14 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_295 : BitVec 32 := 3#32
  let v463 : BitVec 32 := Scalar.subi v2 c3_i32_295
  let c4_i32_296 : BitVec 32 := 4#32
  let c0_i32_297 : BitVec 32 := 0#32
  let v464 : BitVec 1 := Scalar.cmpi .eq c4_i32_296 c0_i32_297
  let c1_i32_298 : BitVec 32 := 1#32
  let v465 : BitVec 32 := Scalar.select v464 c1_i32_298 c4_i32_296
  let v466 : BitVec 32 := Scalar.remsi v463 v465
  let c0_i32_300 : BitVec 32 := 0#32
  let v468 : BitVec 1 := Scalar.cmpi .slt v466 c0_i32_300
  let c0_i32_301 : BitVec 32 := 0#32
  let v469 : BitVec 1 := Scalar.cmpi .slt v465 c0_i32_301
  let v470 : BitVec 1 := Scalar.xori v468 v469
  let c0_i32_299 : BitVec 32 := 0#32
  let v467 : BitVec 1 := Scalar.cmpi .ne v466 c0_i32_299
  let v471 : BitVec 1 := Scalar.andi v470 v467
  let v472 : BitVec 32 := Scalar.addi v466 v465
  let v473 : BitVec 32 := Scalar.select v471 v472 v466
  let c1_i32_341 : BitVec 32 := 1#32
  let v534 : BitVec 32 := Scalar.muli v473 c1_i32_341
  let v535 : BitVec 32 := Scalar.addi c0_i32_342 v534
  v535.toNat
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_347 : BitVec 32 := 2#32
  let v544 : BitVec 32 := Scalar.subi v2 c2_i32_347
  let c4_i32_348 : BitVec 32 := 4#32
  let c0_i32_349 : BitVec 32 := 0#32
  let v545 : BitVec 1 := Scalar.cmpi .eq c4_i32_348 c0_i32_349
  let c1_i32_350 : BitVec 32 := 1#32
  let v546 : BitVec 32 := Scalar.select v545 c1_i32_350 c4_i32_348
  let v547 : BitVec 32 := Scalar.remsi v544 v546
  let c0_i32_352 : BitVec 32 := 0#32
  let v549 : BitVec 1 := Scalar.cmpi .slt v547 c0_i32_352
  let c0_i32_353 : BitVec 32 := 0#32
  let v550 : BitVec 1 := Scalar.cmpi .slt v546 c0_i32_353
  let v551 : BitVec 1 := Scalar.xori v549 v550
  let c0_i32_351 : BitVec 32 := 0#32
  let v548 : BitVec 1 := Scalar.cmpi .ne v547 c0_i32_351
  let v552 : BitVec 1 := Scalar.andi v551 v548
  let v553 : BitVec 32 := Scalar.addi v547 v546
  let v554 : BitVec 32 := Scalar.select v552 v553 v547
  let c1_i32_393 : BitVec 32 := 1#32
  let v615 : BitVec 32 := Scalar.muli v554 c1_i32_393
  let v616 : BitVec 32 := Scalar.addi c0_i32_394 v615
  v616.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 372
  | .vmem => 0
  | .smem => 0
  | _ => 0

abbrev hbmTy0_0 (i : Nat) : BufTy := match i % 128 with
  | 0 => ⟨S512x512, .f32⟩
  | 1 => ⟨S512x8, .f32⟩
  | 2 => ⟨S8x512x1024, .f32⟩
  | 3 => ⟨S8x1024x512, .f32⟩
  | 4 => ⟨S512x8, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S512x1, .i32⟩
  | 21 => ⟨S_, .i32⟩
  | 22 => ⟨S512x1, .i32⟩
  | 23 => ⟨S512x1, .i1⟩
  | 24 => ⟨S1x512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x512, .f32⟩
  | 31 => ⟨S1024x512, .f32⟩
  | 32 => ⟨S512x512, .f32⟩
  | 33 => ⟨S512x1, .f32⟩
  | 34 => ⟨S512x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S512x1, .i32⟩
  | 43 => ⟨S_, .i32⟩
  | 44 => ⟨S512x1, .i32⟩
  | 45 => ⟨S512x1, .i1⟩
  | 46 => ⟨S1x512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x512, .f32⟩
  | 53 => ⟨S1024x512, .f32⟩
  | 54 => ⟨S512x512, .f32⟩
  | 55 => ⟨S512x1, .f32⟩
  | 56 => ⟨S512x512, .f32⟩
  | 57 => ⟨S512x512, .f32⟩
  | 58 => ⟨S_, .f32⟩
  | 59 => ⟨S_, .f32⟩
  | 60 => ⟨S512x512, .i1⟩
  | 61 => ⟨S512x512, .f32⟩
  | 62 => ⟨S512x512, .f32⟩
  | 63 => ⟨S512x512, .f32⟩
  | 64 => ⟨S512x1, .i32⟩
  | 65 => ⟨S_, .i32⟩
  | 66 => ⟨S512x1, .i32⟩
  | 67 => ⟨S512x1, .i1⟩
  | 68 => ⟨S1x512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S1x1024x512, .f32⟩
  | 75 => ⟨S1024x512, .f32⟩
  | 76 => ⟨S512x512, .f32⟩
  | 77 => ⟨S512x1, .f32⟩
  | 78 => ⟨S512x512, .f32⟩
  | 79 => ⟨S512x512, .f32⟩
  | 80 => ⟨S_, .f32⟩
  | 81 => ⟨S_, .f32⟩
  | 82 => ⟨S512x512, .i1⟩
  | 83 => ⟨S512x512, .f32⟩
  | 84 => ⟨S512x512, .f32⟩
  | 85 => ⟨S512x512, .f32⟩
  | 86 => ⟨S512x1, .i32⟩
  | 87 => ⟨S_, .i32⟩
  | 88 => ⟨S512x1, .i32⟩
  | 89 => ⟨S512x1, .i1⟩
  | 90 => ⟨S1x512x1024, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x512, .f32⟩
  | 97 => ⟨S1024x512, .f32⟩
  | 98 => ⟨S512x512, .f32⟩
  | 99 => ⟨S512x1, .f32⟩
  | 100 => ⟨S512x512, .f32⟩
  | 101 => ⟨S512x512, .f32⟩
  | 102 => ⟨S_, .f32⟩
  | 103 => ⟨S_, .f32⟩
  | 104 => ⟨S512x512, .i1⟩
  | 105 => ⟨S512x512, .f32⟩
  | 106 => ⟨S512x512, .f32⟩
  | 107 => ⟨S512x512, .f32⟩
  | 108 => ⟨S512x1, .i32⟩
  | 109 => ⟨S_, .i32⟩
  | 110 => ⟨S512x1, .i32⟩
  | 111 => ⟨S512x1, .i1⟩
  | 112 => ⟨S1x512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S1x1024x512, .f32⟩
  | 119 => ⟨S1024x512, .f32⟩
  | 120 => ⟨S512x512, .f32⟩
  | 121 => ⟨S512x1, .f32⟩
  | 122 => ⟨S512x512, .f32⟩
  | 123 => ⟨S512x512, .f32⟩
  | 124 => ⟨S_, .f32⟩
  | 125 => ⟨S_, .f32⟩
  | 126 => ⟨S512x512, .i1⟩
  | 127 => ⟨S512x512, .f32⟩
  | _ => ⟨S512x512, .f32⟩

abbrev hbmTy0_1 (i : Nat) : BufTy := match i % 128 with
  | 0 => ⟨S512x512, .f32⟩
  | 1 => ⟨S512x512, .f32⟩
  | 2 => ⟨S512x1, .i32⟩
  | 3 => ⟨S_, .i32⟩
  | 4 => ⟨S512x1, .i32⟩
  | 5 => ⟨S512x1, .i1⟩
  | 6 => ⟨S1x512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x512, .f32⟩
  | 13 => ⟨S1024x512, .f32⟩
  | 14 => ⟨S512x512, .f32⟩
  | 15 => ⟨S512x1, .f32⟩
  | 16 => ⟨S512x512, .f32⟩
  | 17 => ⟨S512x512, .f32⟩
  | 18 => ⟨S_, .f32⟩
  | 19 => ⟨S_, .f32⟩
  | 20 => ⟨S512x512, .i1⟩
  | 21 => ⟨S512x512, .f32⟩
  | 22 => ⟨S512x512, .f32⟩
  | 23 => ⟨S512x512, .f32⟩
  | 24 => ⟨S512x1, .i32⟩
  | 25 => ⟨S_, .i32⟩
  | 26 => ⟨S512x1, .i32⟩
  | 27 => ⟨S512x1, .i1⟩
  | 28 => ⟨S1x512x1024, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S1x1024x512, .f32⟩
  | 35 => ⟨S1024x512, .f32⟩
  | 36 => ⟨S512x512, .f32⟩
  | 37 => ⟨S512x1, .f32⟩
  | 38 => ⟨S512x512, .f32⟩
  | 39 => ⟨S512x512, .f32⟩
  | 40 => ⟨S_, .f32⟩
  | 41 => ⟨S_, .f32⟩
  | 42 => ⟨S512x512, .i1⟩
  | 43 => ⟨S512x512, .f32⟩
  | 44 => ⟨S512x512, .f32⟩
  | 45 => ⟨S512x512, .f32⟩
  | 46 => ⟨S512x1, .i32⟩
  | 47 => ⟨S_, .i32⟩
  | 48 => ⟨S512x1, .i32⟩
  | 49 => ⟨S512x1, .i1⟩
  | 50 => ⟨S1x512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | 68 => ⟨S512x1, .i32⟩
  | 69 => ⟨S_, .i32⟩
  | 70 => ⟨S512x1, .i32⟩
  | 71 => ⟨S512x1, .i1⟩
  | 72 => ⟨S1x512x1024, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S1x1024x512, .f32⟩
  | 79 => ⟨S1024x512, .f32⟩
  | 80 => ⟨S512x512, .f32⟩
  | 81 => ⟨S512x1, .f32⟩
  | 82 => ⟨S512x512, .f32⟩
  | 83 => ⟨S512x512, .f32⟩
  | 84 => ⟨S_, .f32⟩
  | 85 => ⟨S_, .f32⟩
  | 86 => ⟨S512x512, .i1⟩
  | 87 => ⟨S512x512, .f32⟩
  | 88 => ⟨S512x512, .f32⟩
  | 89 => ⟨S512x512, .f32⟩
  | 90 => ⟨S512x1, .i32⟩
  | 91 => ⟨S_, .i32⟩
  | 92 => ⟨S512x1, .i32⟩
  | 93 => ⟨S512x1, .i1⟩
  | 94 => ⟨S1x512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S1x1024x512, .f32⟩
  | 101 => ⟨S1024x512, .f32⟩
  | 102 => ⟨S512x512, .f32⟩
  | 103 => ⟨S512x1, .f32⟩
  | 104 => ⟨S512x512, .f32⟩
  | 105 => ⟨S512x512, .f32⟩
  | 106 => ⟨S_, .f32⟩
  | 107 => ⟨S_, .f32⟩
  | 108 => ⟨S512x512, .i1⟩
  | 109 => ⟨S512x512, .f32⟩
  | 110 => ⟨S512x512, .f32⟩
  | 111 => ⟨S512x512, .f32⟩
  | 112 => ⟨S512x1, .i32⟩
  | 113 => ⟨S_, .i32⟩
  | 114 => ⟨S512x1, .i32⟩
  | 115 => ⟨S512x1, .i1⟩
  | 116 => ⟨S1x512x1024, .f32⟩
  | 117 => ⟨S512x1024, .f32⟩
  | 118 => ⟨S512x1024, .f32⟩
  | 119 => ⟨S_, .f32⟩
  | 120 => ⟨S512x1024, .f32⟩
  | 121 => ⟨S512x1024, .f32⟩
  | 122 => ⟨S1x1024x512, .f32⟩
  | 123 => ⟨S1024x512, .f32⟩
  | 124 => ⟨S512x512, .f32⟩
  | 125 => ⟨S512x1, .f32⟩
  | 126 => ⟨S512x512, .f32⟩
  | 127 => ⟨S512x512, .f32⟩
  | _ => ⟨S512x512, .f32⟩

abbrev hbmTy0_2 (i : Nat) : BufTy := match i % 128 with
  | 0 => ⟨S_, .f32⟩
  | 1 => ⟨S_, .f32⟩
  | 2 => ⟨S512x512, .i1⟩
  | 3 => ⟨S512x512, .f32⟩
  | 4 => ⟨S512x512, .f32⟩
  | 5 => ⟨S512x512, .f32⟩
  | 6 => ⟨S512x1, .i32⟩
  | 7 => ⟨S_, .i32⟩
  | 8 => ⟨S512x1, .i32⟩
  | 9 => ⟨S512x1, .i1⟩
  | 10 => ⟨S1x512x1024, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S1x1024x512, .f32⟩
  | 17 => ⟨S1024x512, .f32⟩
  | 18 => ⟨S512x512, .f32⟩
  | 19 => ⟨S512x1, .f32⟩
  | 20 => ⟨S512x512, .f32⟩
  | 21 => ⟨S512x512, .f32⟩
  | 22 => ⟨S_, .f32⟩
  | 23 => ⟨S_, .f32⟩
  | 24 => ⟨S512x512, .i1⟩
  | 25 => ⟨S512x512, .f32⟩
  | 26 => ⟨S512x512, .f32⟩
  | 27 => ⟨S512x512, .f32⟩
  | 28 => ⟨S512x1, .i32⟩
  | 29 => ⟨S_, .i32⟩
  | 30 => ⟨S512x1, .i32⟩
  | 31 => ⟨S512x1, .i1⟩
  | 32 => ⟨S1x512x1024, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S1x1024x512, .f32⟩
  | 39 => ⟨S1024x512, .f32⟩
  | 40 => ⟨S512x512, .f32⟩
  | 41 => ⟨S512x1, .f32⟩
  | 42 => ⟨S512x512, .f32⟩
  | 43 => ⟨S512x512, .f32⟩
  | 44 => ⟨S_, .f32⟩
  | 45 => ⟨S_, .f32⟩
  | 46 => ⟨S512x512, .i1⟩
  | 47 => ⟨S512x512, .f32⟩
  | 48 => ⟨S512x512, .f32⟩
  | 49 => ⟨S512x512, .f32⟩
  | 50 => ⟨S512x1, .i32⟩
  | 51 => ⟨S_, .i32⟩
  | 52 => ⟨S512x1, .i32⟩
  | 53 => ⟨S512x1, .i1⟩
  | 54 => ⟨S1x512x1024, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S1x1024x512, .f32⟩
  | 61 => ⟨S1024x512, .f32⟩
  | 62 => ⟨S512x512, .f32⟩
  | 63 => ⟨S512x1, .f32⟩
  | 64 => ⟨S512x512, .f32⟩
  | 65 => ⟨S512x512, .f32⟩
  | 66 => ⟨S_, .f32⟩
  | 67 => ⟨S_, .f32⟩
  | 68 => ⟨S512x512, .i1⟩
  | 69 => ⟨S512x512, .f32⟩
  | 70 => ⟨S512x512, .f32⟩
  | 71 => ⟨S512x512, .f32⟩
  | 72 => ⟨S512x1, .i32⟩
  | 73 => ⟨S_, .i32⟩
  | 74 => ⟨S512x1, .i32⟩
  | 75 => ⟨S512x1, .i1⟩
  | 76 => ⟨S1x512x1024, .f32⟩
  | 77 => ⟨S512x1024, .f32⟩
  | 78 => ⟨S512x1024, .f32⟩
  | 79 => ⟨S_, .f32⟩
  | 80 => ⟨S512x1024, .f32⟩
  | 81 => ⟨S512x1024, .f32⟩
  | 82 => ⟨S1x1024x512, .f32⟩
  | 83 => ⟨S1024x512, .f32⟩
  | 84 => ⟨S512x512, .f32⟩
  | 85 => ⟨S512x1, .f32⟩
  | 86 => ⟨S512x512, .f32⟩
  | 87 => ⟨S512x512, .f32⟩
  | 88 => ⟨S_, .f32⟩
  | 89 => ⟨S_, .f32⟩
  | 90 => ⟨S512x512, .i1⟩
  | 91 => ⟨S512x512, .f32⟩
  | 92 => ⟨S512x512, .f32⟩
  | 93 => ⟨S512x512, .f32⟩
  | 94 => ⟨S512x1, .i32⟩
  | 95 => ⟨S_, .i32⟩
  | 96 => ⟨S512x1, .i32⟩
  | 97 => ⟨S512x1, .i1⟩
  | 98 => ⟨S1x512x1024, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S1x1024x512, .f32⟩
  | 105 => ⟨S1024x512, .f32⟩
  | 106 => ⟨S512x512, .f32⟩
  | 107 => ⟨S512x1, .f32⟩
  | 108 => ⟨S512x512, .f32⟩
  | 109 => ⟨S512x512, .f32⟩
  | 110 => ⟨S_, .f32⟩
  | 111 => ⟨S_, .f32⟩
  | 112 => ⟨S512x512, .i1⟩
  | 113 => ⟨S512x512, .f32⟩
  | 114 => ⟨S512x512, .f32⟩
  | 115 => ⟨S512x512, .f32⟩
  | _ => ⟨S512x512, .f32⟩

abbrev hbmTy (i : Nat) : BufTy := match i / 128 with
  | 0 => hbmTy0_0 i
  | 1 => hbmTy0_1 i
  | 2 => hbmTy0_2 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_21 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_22 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_24 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_25 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_26 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_27 : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_c_28 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_29 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_30 : Ref sig .tc := ⟨.hbm, 234, rfl⟩
abbrev main_call9_v0 : Ref sig .tc := ⟨.hbm, 235, rfl⟩
abbrev main_call9_v1 : Ref sig .tc := ⟨.hbm, 236, rfl⟩
abbrev main_call9_v2 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_c_31 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_32 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_33 : Ref sig .tc := ⟨.hbm, 256, rfl⟩
abbrev main_call10_v0 : Ref sig .tc := ⟨.hbm, 257, rfl⟩
abbrev main_call10_v1 : Ref sig .tc := ⟨.hbm, 258, rfl⟩
abbrev main_call10_v2 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_c_34 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_cst_35 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_cst_36 : Ref sig .tc := ⟨.hbm, 278, rfl⟩
abbrev main_call11_v0 : Ref sig .tc := ⟨.hbm, 279, rfl⟩
abbrev main_call11_v1 : Ref sig .tc := ⟨.hbm, 280, rfl⟩
abbrev main_call11_v2 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_c_37 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_38 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_cst_39 : Ref sig .tc := ⟨.hbm, 300, rfl⟩
abbrev main_call12_v0 : Ref sig .tc := ⟨.hbm, 301, rfl⟩
abbrev main_call12_v1 : Ref sig .tc := ⟨.hbm, 302, rfl⟩
abbrev main_call12_v2 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_c_40 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_cst_41 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_cst_42 : Ref sig .tc := ⟨.hbm, 322, rfl⟩
abbrev main_call13_v0 : Ref sig .tc := ⟨.hbm, 323, rfl⟩
abbrev main_call13_v1 : Ref sig .tc := ⟨.hbm, 324, rfl⟩
abbrev main_call13_v2 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_c_43 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_cst_44 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_cst_45 : Ref sig .tc := ⟨.hbm, 344, rfl⟩
abbrev main_call14_v0 : Ref sig .tc := ⟨.hbm, 345, rfl⟩
abbrev main_call14_v1 : Ref sig .tc := ⟨.hbm, 346, rfl⟩
abbrev main_call14_v2 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_c_46 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_cst_47 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_cst_48 : Ref sig .tc := ⟨.hbm, 366, rfl⟩
abbrev main_call15_v0 : Ref sig .tc := ⟨.hbm, 367, rfl⟩
abbrev main_call15_v1 : Ref sig .tc := ⟨.hbm, 368, rfl⟩
abbrev main_call15_v2 : Ref sig .tc := ⟨.hbm, 369, rfl⟩
abbrev main_v265 : Ref sig .tc := ⟨.hbm, 370, rfl⟩
abbrev main_v266 : Ref sig .tc := ⟨.hbm, 371, rfl⟩

abbrev nD : Nat := 1
abbrev τ : Topo := Topo.v7x

variable {F : FTy → Type} [FloatOps F]
-- ==== Proof.Slabs.lean ====
/-
  Buffers made of four slabs. Each of the kernel's five scratch buffers is a stack of four slabs, one for
  each device of the mesh, and every access of the kernel to one of them is to one slab or to the whole
  stack. Here: the rectangle of a slab, the contents of a stack in terms of its slabs, the ownership of one
  slab, and how the ownership of a whole stack splits into slabs and into shares.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra of the proof: the pipeline's rounds and the kernel's own, whose duties are numbered by `Fin 4` -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
/-- The device `d` places after `c`, -/
def up (c : Dev nD) (d : Fin 4) : Dev nD := ⟨(c.val + d.val) % 4, Nat.mod_lt _ (by decide)⟩
set_option backward.proofsInPublic true in
/-- and the device `d` places before it. -/
def dn (c : Dev nD) (d : Fin 4) : Dev nD := ⟨(c.val + (4 - d.val)) % 4, Nat.mod_lt _ (by decide)⟩

theorem dn_up (c : Dev nD) (d : Fin 4) : dn (up c d) d = c := by revert c d; decide
theorem up_dn (c : Dev nD) (d : Fin 4) : up (dn c d) d = c := by revert c d; decide

theorem univ_eq_dn (c : Dev nD) : (Finset.univ : Finset (Fin 4)) = [c, dn c 1, dn c 2, dn c 3].toFinset := by revert c; decide
theorem nodup_dn (c : Dev nD) : ([c, dn c 1, dn c 2, dn c 3] : List (Fin 4)).Nodup := by revert c; decide

/-- Going round the mesh by `d` places, as a permutation. -/
def turn (d : Fin 4) : Dev nD ≃ Dev nD := ⟨fun c => up c d, fun c => dn c d, fun c => dn_up c d, fun c => up_dn c d⟩

/-! ## Stacks of four slabs -/

/-- Four slabs of `a` rows and `b` columns, -/
abbrev Stk (a b : ℕ) : Shape := ⟨3, ![4, a, b]⟩
/-- and one slab as a stack of height one. -/
abbrev One (a b : ℕ) : Shape := ⟨3, ![1, a, b]⟩

variable {a b : ℕ}

theorem slab_inb (s : Fin 4) : ∀ x, (![s.val, 0, 0] : Fin 3 → ℕ) x + (One a b).size x ≤ (Stk a b).size x := by
  intro x
  have := s.isLt
  fin_cases x
  · show s.val + 1 ≤ 4; omega
  · show 0 + a ≤ a; omega
  · show 0 + b ≤ b; omega

/-- Slab `s` of a stack, as a rectangle. -/
abbrev slabRect (a b : ℕ) (s : Fin 4) : Rect (Stk a b) := Rect.unit ![s.val, 0, 0] (One a b).size (slab_inb s)

/-- An element's place within its slab. -/
def within (i : (Stk a b).Idx) : (One a b).Idx := fun x => match x with
  | ⟨0, _⟩ => (⟨0, by decide⟩ : Fin 1)
  | ⟨1, _⟩ => (i 1 : Fin a)
  | ⟨2, _⟩ => (i 2 : Fin b)

/-- The stack of the four slabs `X`. -/
def stack {V : Type} (X : Fin 4 → (One a b).Idx → V) (i : (Stk a b).Idx) : V := X (i 0) (within i)

theorem stack_emb {V : Type} (X : Fin 4 → (One a b).Idx → V) (s : Fin 4) (j : (One a b).Idx) :
    stack X ((slabRect a b s).emb j) = X s j := by
  have hj : (j 0).val = 0 := Nat.lt_one_iff.mp (j 0).isLt
  unfold stack
  have h0 : (slabRect a b s).emb j 0 = s := Fin.ext (by
    show s.val + 1 * (j 0).val = s.val; omega)
  have hw : within ((slabRect a b s).emb j) = j := by
    funext x
    fin_cases x
    · exact Fin.ext hj.symm
    · exact Fin.ext (by show 0 + 1 * (j 1).val = (j 1).val; omega)
    · exact Fin.ext (by show 0 + 1 * (j 2).val = (j 2).val; omega)
  rw [hw]
  exact congrArg (fun t => X t j) h0

theorem mem_slab {s : Fin 4} {i : (Stk a b).Idx} : i ∈ (slabRect a b s).set ↔ (i 0 : Fin 4) = s := by
  rw [Rect.mem_set_unit]
  constructor
  · intro h
    have h0 := h 0
    have h1 : s.val ≤ (i 0).val ∧ (i 0).val < s.val + 1 := h0
    exact Fin.ext (by omega)
  · intro h x
    have h0 : (i 0).val = s.val := congrArg Fin.val h
    fin_cases x
    · show s.val ≤ (i 0).val ∧ (i 0).val < s.val + 1; omega
    · show 0 ≤ (i 1).val ∧ (i 1).val < 0 + a; have := (i 1).isLt; exact ⟨Nat.zero_le _, by rw [Nat.zero_add]; exact this⟩
    · show 0 ≤ (i 2).val ∧ (i 2).val < 0 + b; have := (i 2).isLt; exact ⟨Nat.zero_le _, by rw [Nat.zero_add]; exact this⟩

/-- Two contents a view reads alike are alike on the view's elements. -/
theorem eqOn_of_read {κ : Kind} {sp : Space} {s : Shape} {e : EltTy} {Val : EltTy → Type} (v : View sig κ sp s e)
    {f g : v.ty.Contents Val} (h : v.read Val f = v.read Val g) : ∀ i ∈ v.set, f i = g i := by
  intro i hi
  obtain ⟨x, -, rfl⟩ := Finset.mem_map.mp hi
  have := congrFun h x
  rw [View.read_apply, View.read_apply] at this
  exact (cast_inj _).mp this

/-! ## Owning a slab -/

section Own
variable {e : EltTy} (M : Memref sig .tc .vmem (Stk a b) e)

/-- The view of slab `s` of the stack `M`. -/
abbrev sView (s : Fin 4) : View sig .tc .vmem (One a b) e := M.view.slice (slabRect a b s)

/-- Device `c` owns the share `q` of slab `s` of its buffer `M`, which holds what `f` holds there. -/
def slab (c : Dev nD) (s : Fin 4) (q : PosShare TreeShare) (f : Buf (Elt F) (M.view.loc (c : Thread nD τ))) : sProp 𝕄 :=
  M.view.loc (c : Thread nD τ) ↦[(sView M s).set]{q} f

/-- The same for the whole stack. -/
def stk (c : Dev nD) (q : PosShare TreeShare) (f : Buf (Elt F) (M.view.loc (c : Thread nD τ))) : sProp 𝕄 :=
  M.view.loc (c : Thread nD τ) ↦[M.view.set]{q} f

omit [FloatOps F] in
instance slab_storable (c : Dev nD) (s : Fin 4) (q : PosShare TreeShare) (f : Buf (Elt F) (M.view.loc (c : Thread nD τ))) :
    BI.Storable (upEmb : UEmb _ 𝕄) (slab M c s q f) := by unfold slab; infer_instance

theorem mem_set_iff (i : M.view.ty.Idx) : i ∈ M.view.set ↔ ∃ s : Fin 4, i ∈ (sView M s).set := by
  constructor
  · intro hi
    obtain ⟨x, -, rfl⟩ := Finset.mem_map.mp hi
    refine ⟨x 0, ?_⟩
    rw [View.set_slice]
    exact Finset.mem_map_of_mem _ (mem_slab.mpr rfl)
  · rintro ⟨s, hs⟩
    exact View.set_slice_subset _ _ hs

theorem slabs_disjoint (s t : Fin 4) (h : s ≠ t) : Disjoint (sView M s).set (sView M t).set := by
  rw [View.set_slice, View.set_slice, Finset.disjoint_map]
  exact Finset.disjoint_left.mpr fun i hi hj => h ((mem_slab.mp hi).symm.trans (mem_slab.mp hj))

omit [FloatOps F] in
/-- A stack is its four slabs. -/
theorem stk_eq (c : Dev nD) (q : PosShare TreeShare) (f : Buf (Elt F) (M.view.loc (c : Thread nD τ))) :
    (stk M c q f : sProp 𝕄) = bigSep Finset.univ fun s : Fin 4 => slab M c s q f := by
  unfold stk slab
  have key := pointsTo_biUnion (Ix := Unit) (Name := ℕ) (U := UU) (Lvl := ℕ) (Val := Elt F) (ℓ := M.view.loc (c : Thread nD τ)) (q := q) (f := f)
    Finset.univ (fun s : Fin 4 => (sView M s).set) fun s _ t _ h => slabs_disjoint M s t h
  refine Eq.trans (congrArg (fun S => (M.view.loc (c : Thread nD τ) ↦[S]{q} f : sProp 𝕄)) ?_) key
  refine Finset.ext fun i => (mem_set_iff M i).trans ?_
  rw [Finset.mem_biUnion]
  exact ⟨fun ⟨s, h⟩ => ⟨s, Finset.mem_univ _, h⟩, fun ⟨s, _, h⟩ => ⟨s, h⟩⟩

omit [FloatOps F] in
/-- A stack as its own slab and those of the devices one, two and three places before. -/
theorem stk_dn (c : Dev nD) (q : PosShare TreeShare) (f : Buf (Elt F) (M.view.loc (c : Thread nD τ))) :
    (stk M c q f : sProp 𝕄) = iprop(slab M c c q f ∗ slab M c (dn c 1) q f ∗ slab M c (dn c 2) q f ∗ slab M c (dn c 3) q f) := by
  rw [stk_eq]
  exact bigSep_univ_eq_bigSepL [c, dn c 1, dn c 2, dn c 3] (univ_eq_dn c) (nodup_dn c) fun s => slab M c s q f

omit [FloatOps F] in
theorem slab_congr (c : Dev nD) (s : Fin 4) (q : PosShare TreeShare) {f g : Buf (Elt F) (M.view.loc (c : Thread nD τ))}
    (h : (sView M s).read (Elt F) f = (sView M s).read (Elt F) g) : (slab M c s q f : sProp 𝕄) = slab M c s q g :=
  pointsTo_congr (eqOn_of_read (sView M s) h)

/-! ### Shares -/

/-- The share a device keeps of its own slab, and the three it lends to its copies. -/
def quarter (d : Fin 4) : PosShare TreeShare := match d with
  | 0 => fullShare.left.left | 1 => fullShare.left.right | 2 => fullShare.right.left | 3 => fullShare.right.right

omit [FloatOps F] in
theorem slab_quarters (c : Dev nD) (s : Fin 4) (f : Buf (Elt F) (M.view.loc (c : Thread nD τ))) :
    (slab M c s fullShare f : sProp 𝕄) ⊣⊢ iprop((slab M c s (quarter 0) f ∗ slab M c s (quarter 1) f) ∗ slab M c s (quarter 2) f ∗ slab M c s (quarter 3) f) := by
  unfold slab quarter
  refine (pointsTo_share (PosShare.mem_left_op_right fullShare)).trans ?_
  exact sep_congr (pointsTo_share (PosShare.mem_left_op_right _)) (pointsTo_share (PosShare.mem_left_op_right _))

end Own

end Cert.Moe

end
-- ==== Proof.Net.lean ====
/-
  The kernel's protocol, cell by cell.

  Names. Device `c` talks to its three peers, the devices one, two and three places after it (`up c d`) and
  before it (`dn c d`). There are four kinds of transfer: 0 the tokens `x`, 1 the router's columns, 2 the gate
  weights, 3 the experts' partial results; kind `k` from `c` to `up c d` is credited on the send semaphore
  `(k, d)` of `c` and on the receive semaphore `(k, d)` of `up c d`.

  * BARRIER semaphore of `c`: each peer signals one unit, `c` waits for three. The unit of the peer `up c e`
    (duty `e`) hands over slab `c` of that peer's four landing buffers, with any contents: from then on `c` may
    write there.
  * RECEIVE `(k, d)` of `c`: credited by the landing of kind `k` from `dn c d`, waited for once. It hands `c`
    its own landing slab `dn c d` back, holding what `dn c d` sent: its tokens, its router columns, its gate
    weights, or the partial result that `dn c d` computed for `c`'s tokens.
  * SEND `(k, d)` of `c`: credited when the copy has read its source, waited for once at the end. It hands back
    the source: a quarter share of `c`'s own slab for kinds 0, 1, 2, slab `up c d` of the partial results for 3.

  Levels, for the absence of deadlock: staging and send semaphores 0, barrier 1, receives of kinds 0 and 1 at 2,
  of kind 2 at 3, of kind 3 at 4. What a device still owes at each of its waits lies strictly above.
-/
module

public import proofs.«01_k».proof.Proof.Slabs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers -/

abbrev xM : Memref sig .tc .vmem S128x512 .f32 := Memref.whole cc0_stg0_0
abbrev rM : Memref sig .tc .vmem S512x2 .f32 := Memref.whole cc0_stg1_0
abbrev uM : Memref sig .tc .vmem S2x512x1024 .f32 := Memref.whole cc0_stg2_0
abbrev vM : Memref sig .tc .vmem S2x1024x512 .f32 := Memref.whole cc0_stg3_0
abbrev oM : Memref sig .tc .vmem S128x512 .f32 := Memref.whole cc0_stg4_0
/-- The landing stacks of the tokens, the router columns, the gate weights; the partial results to send; the
    landing stack of the partial results. -/
abbrev xA : Memref sig .tc .vmem (Stk 128 512) .bf16 := Memref.whole cc0_scratch0
abbrev rA : Memref sig .tc .vmem (Stk 512 2) .f32 := Memref.whole cc0_scratch1
abbrev wA : Memref sig .tc .vmem (Stk 128 8) .f32 := Memref.whole cc0_scratch2
abbrev pA : Memref sig .tc .vmem (Stk 128 512) .bf16 := Memref.whole cc0_scratch3
abbrev cA : Memref sig .tc .vmem (Stk 128 512) .bf16 := Memref.whole cc0_scratch4

/-! ## Semaphores and cells -/

abbrev barS : Sem sig := (SemArray.scalar (sig.barrier 0 rfl) : Sems sig S_).sem

set_option backward.proofsInPublic true in
/-- The semaphore of kind `k` and peer `d`, for sending (`dir = 0`) or receiving (`dir = 1`). -/
def dsem (k : Fin 4) (dir : Fin 2) (d : Fin 4) : DmaSem sig :=
  ⟨5 + 8 * k.val + 4 * dir.val + d.val, by revert k dir d; decide⟩

set_option backward.proofsInPublic true in
def kindOf (s : DmaSem sig) : Fin 4 := ⟨(s.val - 5) / 8 % 4, Nat.mod_lt _ (by decide)⟩
set_option backward.proofsInPublic true in
def dirOf (s : DmaSem sig) : Fin 2 := ⟨(s.val - 5) / 4 % 2, Nat.mod_lt _ (by decide)⟩
set_option backward.proofsInPublic true in
def peerOf (s : DmaSem sig) : Fin 4 := ⟨(s.val - 5) % 4, Nat.mod_lt _ (by decide)⟩

theorem kindOf_dsem (k : Fin 4) (dir : Fin 2) (d : Fin 4) : kindOf (dsem k dir d) = k := by revert k dir d; decide
theorem dirOf_dsem (k : Fin 4) (dir : Fin 2) (d : Fin 4) : dirOf (dsem k dir d) = dir := by revert k dir d; decide
theorem peerOf_dsem (k : Fin 4) (dir : Fin 2) (d : Fin 4) : peerOf (dsem k dir d) = d := by revert k dir d; decide
theorem five_le_dsem (k : Fin 4) (dir : Fin 2) (d : Fin 4) : 5 ≤ (dsem k dir d).val := by
  show 5 ≤ 5 + 8 * k.val + 4 * dir.val + d.val; omega

abbrev bar (c : Dev nD) : GSem nD τ sig := ((c : Thread nD τ), .reg barS)
abbrev cell (c : Dev nD) (k : Fin 4) (dir : Fin 2) (d : Fin 4) : GSem nD τ sig := ((c : Thread nD τ), .dma (dsem k dir d))

/-- What one copy of kind `k` credits. -/
def N (k : Fin 4) : ℕ := match k with
  | 0 => ((xA.slice (slabRect 128 512 0) (fun _ => rfl)).squeeze S128x512 squeezes_S1x128x512_S128x512).view.dmaCredit
  | 1 => ((rA.slice (slabRect 512 2 0) (fun _ => rfl)).squeeze S512x2 squeezes_S1x512x2_S512x2).view.dmaCredit
  | 2 => ((wA.slice (slabRect 128 8 0) (fun _ => rfl)).squeeze S128x8 squeezes_S1x128x8_S128x8).view.dmaCredit
  | 3 => ((cA.slice (slabRect 128 512 0) (fun _ => rfl)).squeeze S128x512 squeezes_S1x128x512_S128x512).view.dmaCredit

theorem N_pos (k : Fin 4) : 0 < N k := by
  unfold N; split <;> exact View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's four staged blocks: its tokens, its two columns of the router, its two experts' matrices. -/
def xst (c : Dev nD) : (cc0_stg0_0 : Ref sig .tc).ty.Contents (Elt F) :=
  (win0_0.blk (0 : Fin 1)).view.read (Elt F) ((s₀ m ρ).mem ((c : Thread nD τ).loc main_arg0))
def rst (c : Dev nD) : (cc0_stg1_0 : Ref sig .tc).ty.Contents (Elt F) :=
  (win0_1.blk (0 : Fin 1)).view.read (Elt F) ((s₀ m ρ).mem ((c : Thread nD τ).loc main_arg1))
def ust (c : Dev nD) : (cc0_stg2_0 : Ref sig .tc).ty.Contents (Elt F) :=
  (win0_2.blk (0 : Fin 1)).view.read (Elt F) ((s₀ m ρ).mem ((c : Thread nD τ).loc main_arg2))
def vst (c : Dev nD) : (cc0_stg3_0 : Ref sig .tc).ty.Contents (Elt F) :=
  (win0_3.blk (0 : Fin 1)).view.read (Elt F) ((s₀ m ρ).mem ((c : Thread nD τ).loc main_arg3))

/-- Expert matrix `i` of the two a device holds, as the kernel reads it. -/
abbrev u0 (c : Dev nD) : Vec F S1x512x1024 .f32 :=
  (uM : Memref sig .tc .vmem S2x512x1024 .f32).view.readAt (Elt F) (Rect.unit (s := S2x512x1024) ![0, 0, 0] S1x512x1024.size inb_S2x512x1024_S1x512x1024_0_0_0).toLoadRect (ust m ρ c)
abbrev u1 (c : Dev nD) : Vec F S1x512x1024 .f32 :=
  (uM : Memref sig .tc .vmem S2x512x1024 .f32).view.readAt (Elt F) (Rect.unit (s := S2x512x1024) ![1, 0, 0] S1x512x1024.size inb_S2x512x1024_S1x512x1024_1_0_0).toLoadRect (ust m ρ c)
abbrev v0 (c : Dev nD) : Vec F S1x1024x512 .f32 :=
  (vM : Memref sig .tc .vmem S2x1024x512 .f32).view.readAt (Elt F) (Rect.unit (s := S2x1024x512) ![0, 0, 0] S1x1024x512.size inb_S2x1024x512_S1x1024x512_0_0_0).toLoadRect (vst m ρ c)
abbrev v1 (c : Dev nD) : Vec F S1x1024x512 .f32 :=
  (vM : Memref sig .tc .vmem S2x1024x512 .f32).view.readAt (Elt F) (Rect.unit (s := S2x1024x512) ![1, 0, 0] S1x1024x512.size inb_S2x1024x512_S1x1024x512_1_0_0).toLoadRect (vst m ρ c)

/-- The word the kernel numbers its device by. -/
def me (c : Dev nD) : BitVec 32 := Scalar.remsi (Scalar.divsi (Dev.word c) 1#32) 4#32
/-- The experts' numbers along a row of gates. -/
def ids : IVec S128x8 32 := iota .tc S128x8 32 [1] iota_S128x8_d1_w32

/-- The tokens of device `s` as sent, -/
def xB (s : Fin 4) : Vec F S1x128x512 .bf16 := k0_pay1 (xst m ρ s)
/-- its router columns as sent, -/
def rB (s : Fin 4) : Vec F S1x512x2 .f32 := k0_pay2 (rst m ρ s)
/-- the whole router, stacked, -/
def rAll : Buf (Elt F) ((rA).view.loc ((0 : Dev nD) : Thread nD τ)) := stack (rB m ρ)
/-- the gate weights of its tokens, -/
def gB (s : Fin 4) : FVec F S128x8 .f32 := k0_pay9 (k0_pay7 (rAll m ρ)) (k0_pay8 (xst m ρ s)) (constant S128x8 .f32 0x00000000#32)
/-- the same as sent. -/
def wB (s : Fin 4) : Vec F S1x128x8 .f32 := k0_pay10 (k0_pay7 (rAll m ρ)) (k0_pay8 (xst m ρ s)) (constant S128x8 .f32 0x00000000#32)
/-- What device `c`'s two experts contribute to the tokens of device `s`. -/
def pB (c s : Fin 4) : Vec F S1x128x512 .bf16 :=
  k0_pay20 (me c) (k0_pay3 (u0 m ρ c)) (k0_pay4 (u1 m ρ c)) (k0_pay5 (v0 m ρ c)) (k0_pay6 (v1 m ρ c)) ids
    (k0_pay18 (xB m ρ s)) (k0_pay19 (wB m ρ s)) (Scalar.ofBits .f32 0x00000000#32)

def xAll (c : Dev nD) : Buf (Elt F) (xA.view.loc (c : Thread nD τ)) := stack (xB m ρ)
def rAllAt (c : Dev nD) : Buf (Elt F) (rA.view.loc (c : Thread nD τ)) := stack (rB m ρ)
def wAll (c : Dev nD) : Buf (Elt F) (wA.view.loc (c : Thread nD τ)) := stack (wB m ρ)
def pAll (c : Dev nD) : Buf (Elt F) (pA.view.loc (c : Thread nD τ)) := stack (pB m ρ c)
def cAll (c : Dev nD) : Buf (Elt F) (cA.view.loc (c : Thread nD τ)) := stack fun s => pB m ρ s c

/-- The kernel's result on device `c`. -/
def outAt (c : Dev nD) : (cc0_stg4_0 : Ref sig .tc).ty.Contents (Elt F) := k0_pay32 (cAll m ρ c)

/-! ## The schedule -/

/-- Slab `s` of device `c`'s landing stack of kind `k`, with any contents. -/
def hole (k : Fin 4) (c : Dev nD) (s : Fin 4) : sProp 𝕄 := match k with
  | 0 => iprop(∃ f, slab xA c s fullShare f)
  | 1 => iprop(∃ f, slab rA c s fullShare f)
  | 2 => iprop(∃ f, slab wA c s fullShare f)
  | 3 => iprop(∃ f, slab cA c s fullShare f)

/-- Slab `s` of all four. -/
def landing (c : Dev nD) (s : Fin 4) : sProp 𝕄 := iprop(hole 0 c s ∗ hole 1 c s ∗ hole 2 c s ∗ hole 3 c s)

def recvPay (k : Fin 4) (c : Dev nD) (d : Fin 4) : sProp 𝕄 := match k with
  | 0 => slab xA c (dn c d) fullShare (xAll m ρ c)
  | 1 => slab rA c (dn c d) fullShare (rAllAt m ρ c)
  | 2 => slab wA c (dn c d) fullShare (wAll m ρ c)
  | 3 => slab cA c (dn c d) fullShare (cAll m ρ c)

def sendPay (k : Fin 4) (c : Dev nD) (d : Fin 4) : sProp 𝕄 := match k with
  | 0 => slab xA c c (quarter d) (xAll m ρ c)
  | 1 => slab rA c c (quarter d) (rAllAt m ρ c)
  | 2 => slab wA c c (quarter d) (wAll m ρ c)
  | 3 => slab pA c (up c d) fullShare (pAll m ρ c)

def xferPay (k : Fin 4) (dir : Fin 2) (c : Dev nD) (d : Fin 4) : sProp 𝕄 :=
  if dir = 0 then sendPay m ρ k c d else recvPay m ρ k c d

omit [FloatOps F] in
instance hole_storable (k : Fin 4) (c : Dev nD) (s : Fin 4) : BI.Storable (upEmb : UEmb _ 𝕄) (hole (F := F) k c s) := by
  unfold hole; split <;> infer_instance
omit [FloatOps F] in
instance landing_storable (c : Dev nD) (s : Fin 4) : BI.Storable (upEmb : UEmb _ 𝕄) (landing (F := F) c s) := by
  unfold landing; infer_instance
instance xferPay_storable (k : Fin 4) (dir : Fin 2) (c : Dev nD) (d : Fin 4) : BI.Storable (upEmb : UEmb _ 𝕄) (xferPay (F := F) m ρ k dir c d) := by
  unfold xferPay sendPay recvPay
  (repeat' split) <;> infer_instance

/-- Every cell has one round, round 0. -/
def Rd : Rounds.Schedule (GSem nD τ sig) (Fin 4) 𝕄 where
  duties g r := if r = 0 ∧ g.1.2 = .tc then
      (match g.2 with
        | .reg s => if s = barS then {1, 2, 3} else ∅
        | .dma s => if 5 ≤ s.val ∧ peerOf s ≠ 0 then {0} else ∅)
    else ∅
  unitless _ := False
  amount g _ _ := match g.2 with | .reg _ => 1 | .dma s => N (kindOf s)
  payload g _ e := match g.2 with
    | .reg _ => landing (up g.1.1 e) g.1.1
    | .dma s => xferPay m ρ (kindOf s) (dirOf s) g.1.1 (peerOf s)
  amount_pos g _ _ _ := by
    rcases g with ⟨t, s | s⟩
    · exact Nat.one_pos
    · exact N_pos _

instance Rd_payload_storable (g : GSem nD τ sig) (r : ℕ) (e : Fin 4) : BI.Storable (upEmb : UEmb _ 𝕄) ((Rd (F := F) m ρ).payload g r e) := by
  rcases g with ⟨t, s | s⟩
  · exact landing_storable _ _
  · exact xferPay_storable m ρ _ _ _ _

section Sched
variable (c : Dev nD) (k : Fin 4) (dir : Fin 2) (d : Fin 4)

theorem duties_bar : (Rd (F := F) m ρ).duties (bar c) 0 = {1, 2, 3} := by
  dsimp only [Rd]; rw [if_pos ⟨rfl, rfl⟩, if_pos rfl]
theorem duties_cell (hd : d ≠ 0) : (Rd (F := F) m ρ).duties (cell c k dir d) 0 = {0} := by
  dsimp only [Rd]; rw [if_pos ⟨rfl, rfl⟩, if_pos ⟨five_le_dsem k dir d, by rw [peerOf_dsem]; exact hd⟩]
theorem duties_cell_zero : (Rd (F := F) m ρ).duties (cell c k dir 0) 0 = ∅ := by
  dsimp only [Rd]; rw [if_pos ⟨rfl, rfl⟩, if_neg fun h => h.2 (peerOf_dsem k dir 0)]
theorem duties_later (g : GSem nD τ sig) : ∀ r, 1 ≤ r → (Rd (F := F) m ρ).duties g r = ∅ :=
  fun r hr => by dsimp only [Rd]; rw [if_neg fun h => by omega]
theorem duties_idle : ∀ r, 0 ≤ r → (Rd (F := F) m ρ).duties (cell c k dir 0) r = ∅ := fun r _ => by
  rcases Nat.eq_zero_or_pos r with rfl | h
  · exact duties_cell_zero m ρ c k dir
  · exact duties_later m ρ _ r h

theorem amount_bar (e : Fin 4) : (Rd (F := F) m ρ).amount (bar c) 0 e = 1 := rfl
theorem amount_cell (e : Fin 4) : (Rd (F := F) m ρ).amount (cell c k dir d) 0 e = N k := by
  dsimp only [Rd]; rw [kindOf_dsem]
theorem expect_bar : (Rd (F := F) m ρ).expect (bar c) 0 = 3 := by
  unfold Schedule.expect Schedule.amountOf; rw [duties_bar]; rfl
theorem expect_cell (hd : d ≠ 0) : (Rd (F := F) m ρ).expect (cell c k dir d) 0 = N k := by
  unfold Schedule.expect Schedule.amountOf; rw [duties_cell m ρ c k dir d hd, Finset.sum_singleton, amount_cell]

theorem payload_bar (e : Fin 4) : (Rd (F := F) m ρ).payload (bar c) 0 e = landing (up c e) c := rfl
theorem payload_cell (e : Fin 4) : (Rd (F := F) m ρ).payload (cell c k dir d) 0 e = xferPay m ρ k dir c d := by
  dsimp only [Rd]; rw [kindOf_dsem, dirOf_dsem, peerOf_dsem]
theorem payload_send (e : Fin 4) : (Rd (F := F) m ρ).payload (cell c k 0 d) 0 e = sendPay m ρ k c d := by
  rw [payload_cell]; exact if_pos rfl
theorem payload_recv (e : Fin 4) : (Rd (F := F) m ρ).payload (cell c k 1 d) 0 e = recvPay m ρ k c d := by
  rw [payload_cell]; exact if_neg (by decide)

theorem rest_bar : bigSep ((Rd (F := F) m ρ).duties (bar c) 0 \ ∅) (fun e => (Rd (F := F) m ρ).payload (bar c) 0 e)
    = iprop(landing (up c 1) c ∗ landing (up c 2) c ∗ landing (up c 3) c) := by
  rw [Finset.sdiff_empty, duties_bar]
  exact bigSep_eq_bigSepL_of_eq (M := 𝕄) ([1, 2, 3] : List (Fin 4)) (show ({1, 2, 3} : Finset (Fin 4)) = ([1, 2, 3] : List (Fin 4)).toFinset by decide) (by decide) _
theorem rest_cell (hd : d ≠ 0) : bigSep ((Rd (F := F) m ρ).duties (cell c k dir d) 0 \ ∅) (fun e => (Rd (F := F) m ρ).payload (cell c k dir d) 0 e)
    = xferPay m ρ k dir c d := by
  rw [Finset.sdiff_empty, duties_cell m ρ c k dir d hd, bigSep_singleton, payload_cell]

end Sched

/-! ## What a device owes, step by step -/

/-- The steps by which a device pays what it owes: the signal to, and the copies of kind `k` to, the device `d` places after. -/
inductive Step where
  | knock (d : Fin 4)
  | put (k d : Fin 4)

/-- The cell a step of device `c` credits, and by how much. -/
def Step.cell (c : Dev nD) : Step → GSem nD τ sig
  | .knock d => bar (up c d)
  | .put k d => Moe.cell (up c d) k 1 d
def Step.units : Step → ℕ
  | .knock _ => 1
  | .put k _ => N k

/-- What device `c` owes with the steps `l` before it. -/
def owe (c : Dev nD) : List Step → CellTallies nD τ sig Unit
  | [] => 0
  | s :: l => owe c l + tallyAt (s.cell c) () s.units

/-- All the steps, in the kernel's order, and what remains of them after each stage. -/
abbrev stepsC : List Step := [.put 3 3, .put 3 1, .put 3 2]
abbrev stepsW : List Step := .put 2 1 :: .put 2 2 :: .put 2 3 :: stepsC
abbrev stepsX : List Step := .put 0 1 :: .put 1 1 :: .put 0 2 :: .put 1 2 :: .put 0 3 :: .put 1 3 :: stepsW
abbrev steps : List Step := .knock 1 :: .knock 2 :: .knock 3 :: stepsX

def L (g : GSem nD τ sig) : Finset Unit := if g.1.2 = .tc then {()} else ∅

/-- The level of the receives of a kind. -/
def rank (k : Fin 4) : ℕ := match k with | 0 => 2 | 1 => 2 | 2 => 3 | 3 => 4
def semLevel : SemLoc sig → ℕ
  | .reg _ => 1
  | .dma s => if s.val < 5 then 0 else if dirOf s = 0 then 0 else rank (kindOf s)
def lv (g : GSem nD τ sig) (_ : Unit) : ℕ := semLevel g.2

def Step.level : Step → ℕ
  | .knock _ => 1
  | .put k _ => rank k

theorem semLevel_send (k d : Fin 4) : semLevel (.dma (dsem k 0 d)) = 0 := by revert k d; decide
theorem semLevel_recv (k d : Fin 4) : semLevel (.dma (dsem k 1 d)) = rank k := by revert k d; decide
theorem Step.lv_cell (c : Dev nD) (s : Step) : lv (s.cell c) () = s.level := by
  cases s with
  | knock d => rfl
  | put k d => exact semLevel_recv k d

theorem L_of_ne (g : GSem nD τ sig) (h : g.1.2 ≠ .tc) : L g = ∅ := if_neg h
theorem L_tc (c : Dev nD) (sm : SemLoc sig) : L ((c : Thread nD τ), sm) = {()} := if_pos rfl
theorem L_step (c : Dev nD) (s : Step) : L (s.cell c) = {()} := by cases s <;> exact if_pos rfl

theorem owe_pos {c : Dev nD} {l : List Step} {g : GSem nD τ sig} {u : Unit} (h : 0 < owe c l g u) : ∃ s ∈ l, g = s.cell c := by
  induction l with
  | nil => exact absurd h (Nat.lt_irrefl 0)
  | cons s l ih =>
    have h' : 0 < owe c l g u + tallyAt (s.cell c) () s.units g u := h
    by_cases hl : 0 < owe c l g u
    · obtain ⟨t, ht, hg⟩ := ih hl
      exact ⟨t, List.mem_cons_of_mem _ ht, hg⟩
    · refine ⟨s, List.mem_cons_self, ?_⟩
      by_contra hg
      rw [tallyAt_apply, if_neg fun h => hg h.1] at h'
      omega

omit [FloatOps F] in
/-- A device may wait on a semaphore whose level is below that of every step it still owes. -/
theorem mayWait (c : Dev nD) (sm : SemLoc sig) (l : List Step) (h : ∀ s ∈ l, semLevel sm < s.level) :
    (levAts L lv : sProp 𝕄) ⊢ MayWait (c : Thread nD τ) sm () (owe c l) :=
  MayOwe.of_cut (L := L) (lev := lv) (semLevel sm) (fun p hp => by rw [Finset.mem_singleton.mp hp, L_tc]; exact Finset.mem_singleton_self _)
    (fun g u hg => by obtain ⟨s, -, rfl⟩ := owe_pos hg; rw [L_step]; exact Finset.mem_singleton_self _)
    (fun p hp => by rw [Finset.mem_singleton.mp hp]; exact le_refl _)
    (fun g u hg => by
      obtain ⟨s, hs, rfl⟩ := owe_pos hg
      cases u
      rw [Step.lv_cell]; exact h s hs)

/-! ## The cells of the protocol and the records that they are allocated -/

/-- The kernel's own semaphores, the barrier apart. -/
abbrev Key : Type := Fin 4 × Fin 2 × Fin 4
abbrev osem (i : Key) : SemLoc sig := .dma (dsem i.1 i.2.1 i.2.2)
abbrev csem (i : Option Key) : SemLoc sig := match i with | none => .reg barS | some i => osem i
abbrev kcell (ci : Dev nD × Option Key) : GSem nD τ sig := ((ci.1 : Thread nD τ), csem ci.2)

theorem dsem_injective {k k' : Fin 4} {dir dir' : Fin 2} {d d' : Fin 4} (h : dsem k dir d = dsem k' dir' d') : k = k' ∧ dir = dir' ∧ d = d' :=
  ⟨by rw [← kindOf_dsem k dir d, h, kindOf_dsem], by rw [← dirOf_dsem k dir d, h, dirOf_dsem], by rw [← peerOf_dsem k dir d, h, peerOf_dsem]⟩

theorem kcell_injective : Function.Injective (kcell : Dev nD × Option Key → GSem nD τ sig) := by
  rintro ⟨c, i⟩ ⟨c', i'⟩ h
  have h1 : c = c' := by have := congrArg (fun g : GSem nD τ sig => g.1.1) h; exact this
  subst h1
  have h2 : csem i = csem i' := congrArg Prod.snd h
  rcases i with _ | ⟨k, dir, d⟩ <;> rcases i' with _ | ⟨k', dir', d'⟩
  · rfl
  · cases h2
  · cases h2
  · obtain ⟨rfl, rfl, rfl⟩ := dsem_injective (SemLoc.dma.inj h2); rfl

def cells : Finset (GSem nD τ sig) := Finset.univ.map ⟨kcell, kcell_injective⟩

theorem bar_mem (c : Dev nD) : bar c ∈ cells := Finset.mem_map_of_mem ⟨kcell, kcell_injective⟩ (Finset.mem_univ (c, none))
theorem cell_mem (c : Dev nD) (k : Fin 4) (dir : Fin 2) (d : Fin 4) : cell c k dir d ∈ cells :=
  Finset.mem_map_of_mem ⟨kcell, kcell_injective⟩ (Finset.mem_univ (c, some (k, dir, d)))

/-- Every cell's invariant, at some names, and that every cell has reached its round. -/
def records (K : GSem nD τ sig → ℕ) : sProp 𝕄 :=
  iprop((bigSep cells fun g => cellInv ER (Rd m ρ) (K g) g) ∗ bigSep cells fun g => reached ER g 0)

instance records_persistent (K : GSem nD τ sig → ℕ) : BI.Persistent (records m ρ K) := by unfold records; infer_instance

theorem inv_at (K : GSem nD τ sig → ℕ) {g : GSem nD τ sig} (hg : g ∈ cells) : records m ρ K ⊢ cellInv ER (Rd m ρ) (K g) g := by
  unfold records
  iintro ⟨H, -⟩
  iapply (show (bigSep cells fun g => cellInv ER (Rd m ρ) (K g) g) ⊢ (cellInv ER (Rd m ρ) (K g) g : sProp 𝕄) from bigSep_elim hg); iexact H
theorem reached_at (K : GSem nD τ sig → ℕ) {g : GSem nD τ sig} (hg : g ∈ cells) : records m ρ K ⊢ reached ER g 0 := by
  unfold records
  iintro ⟨-, H⟩
  iapply (show (bigSep cells fun g => reached ER g 0) ⊢ (reached ER g 0 : sProp 𝕄) from bigSep_elim hg); iexact H

end Cert.Moe

end
-- ==== Proof.Steps.lean ====
/-
  The kernel's steps: each rule states what one effect of the kernel's body consumes and gives back in terms of
  the slabs, cells and payloads of the protocol. Every rule is stated once, with the peer and the slab's offset
  as variables pinned by equations.
-/
module

public import proofs.«01_k».proof.Proof.Net

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)
variable {α : Type}

/-- The weakest precondition of device `c`'s program. -/
abbrev run (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of slabs -/

section Slab
variable {a b : ℕ} {e : EltTy} (M : Memref sig .tc .vmem (Stk a b) e)

/-- A load of a slab yields what the slab holds. -/
theorem load_slab {Q : α → sProp 𝕄} (c : Dev nD) (s : Fin 4) {q : PosShare TreeShare} {f : Buf (Elt F) (M.view.loc (c : Thread nD τ))}
    {o : Fin 3 → ℕ} (ho : o = ![s.val, 0, 0]) {inb : ∀ x, (o : Fin 3 → ℕ) x + (One a b).size x ≤ (Stk a b).size x}
    {hl : M.view.LoadsAt (Rect.unit (s := Stk a b) o (One a b).size inb).toLoadRect}
    {k : ((One a b).Idx → Elt F e) → Prog (TpuEff nD τ sig (Elt F) Λ₀ .tc) α}
    (X : (One a b).Idx → Elt F e) (hX : (sView M s).read (Elt F) f = X) :
    (slab M c s q f : sProp 𝕄) ⊢ iprop((slab M c s q f -∗ run c (k X) Q)
      -∗ run c (.op (.load M (Rect.unit (s := Stk a b) o (One a b).size inb).toLoadRect hl) k) Q) := by
  subst ho hX
  exact wp_load_rect 𝒱₀ (c : Thread nD τ) none Set.univ (m := M) (r := slabRect a b s) (Finset.Subset.refl _)

/-- The same when the value loaded is not used. -/
theorem load_slab_any {Q : α → sProp 𝕄} (c : Dev nD) (s : Fin 4) {q : PosShare TreeShare} {f : Buf (Elt F) (M.view.loc (c : Thread nD τ))}
    {o : Fin 3 → ℕ} (ho : o = ![s.val, 0, 0]) {inb : ∀ x, (o : Fin 3 → ℕ) x + (One a b).size x ≤ (Stk a b).size x}
    {hl : M.view.LoadsAt (Rect.unit (s := Stk a b) o (One a b).size inb).toLoadRect}
    {k : ((One a b).Idx → Elt F e) → Prog (TpuEff nD τ sig (Elt F) Λ₀ .tc) α} :
    (slab M c s q f : sProp 𝕄) ⊢ iprop((∀ X, slab M c s q f -∗ run c (k X) Q)
      -∗ run c (.op (.load M (Rect.unit (s := Stk a b) o (One a b).size inb).toLoadRect hl) k) Q) := by
  iintro H Hk
  iapply (load_slab M c s ho _ rfl) $$ H
  iapply Hk

/-- A store to a slab leaves it holding the value stored, whatever whole contents `g` one names it by. -/
theorem store_slab {Q : α → sProp 𝕄} (c : Dev nD) (s : Fin 4) {f : Buf (Elt F) (M.view.loc (c : Thread nD τ))} (g : Buf (Elt F) (M.view.loc (c : Thread nD τ)))
    {o : Fin 3 → ℕ} (ho : o = ![s.val, 0, 0]) {inb : ∀ x, (o : Fin 3 → ℕ) x + (One a b).size x ≤ (Stk a b).size x} {w : (One a b).Idx → Elt F e}
    {hx : (M.access (Rect.unit (s := Stk a b) o (One a b).size inb)).Stores Finset.univ} {hm : (Finset.univ : Finset (One a b).Idx) = Finset.univ ∨ ∀ i, (Rect.unit (s := Stk a b) o (One a b).size inb).stride i = 1}
    {k : PUnit → Prog (TpuEff nD τ sig (Elt F) Λ₀ .tc) α}
    (hg : (sView M s).read (Elt F) g = w) :
    (slab M c s fullShare f : sProp 𝕄) ⊢ iprop((slab M c s fullShare g -∗ run c (k ⟨⟩) Q)
      -∗ run c (.op (.store M (Rect.unit (s := Stk a b) o (One a b).size inb) w Finset.univ hx hm) k) Q) := by
  subst ho
  have hw : (slab M c s fullShare ((sView M s).write (Elt F) f w Finset.univ) : sProp 𝕄) = slab M c s fullShare g :=
    slab_congr M c s fullShare (by rw [View.read_write_univ]; exact hg.symm)
  rw [← hw]
  exact wp_store 𝒱₀ (c : Thread nD τ) none Set.univ (m := M) (r := slabRect a b s) (Mk := Finset.univ) (View.setOn_subset_set _ _)

end Slab

/-! ## Signals -/

/-- The duty of `up c d`'s barrier that `c` pays. -/
def opp (d : Fin 4) : Fin 4 := match d with | 0 => 0 | 1 => 3 | 2 => 2 | 3 => 1
theorem up_opp (c : Dev nD) (d : Fin 4) : up (up c d) (opp d) = c := by revert c d; decide
theorem opp_mem {d : Fin 4} (hd : d ≠ 0) : opp d ∈ ({1, 2, 3} : Finset (Fin 4)) := by revert d; decide

/-- The signal to the barrier of `up c d`: the landing slabs for `up c d` go with it. -/
theorem knock {Q : α → sProp 𝕄} (K : GSem nD τ sig → ℕ) (c n : Dev nD) (d : Fin 4) (hd : d ≠ 0) (hn : n = up c d) (l : List Step) (W : Waits sig Unit)
    {k' : ℕ} (hk : k' = 1) {k : PUnit → Prog (TpuEff nD τ sig (Elt F) Λ₀ .tc) α} :
    iprop(records m ρ K ∗ owes (c : Thread nD τ) (owe c (.knock d :: l)) W ∗ dutyTok ER (bar (up c d)) 0 (opp d) ∗ landing c (up c d))
      ⊢ iprop((owes (c : Thread nD τ) (owe c l) W -∗ run c (k ⟨⟩) Q)
          -∗ run c (.op (.semSignal (Dev.tc n : Thread nD τ) barS k') k) Q) := by
  subst hn hk
  iintro ⟨#HR, HO, Ht, Hp⟩
  iapply (Rounds.wp_signal 𝒱₀ ER (Rd m ρ) (c : Thread nD τ) none (dst := (up c d : Thread nD τ)) (κ := K (bar (up c d)))
      (d := opp d) (by rw [duties_bar]; exact opp_mem hd) (amount_bar m ρ (up c d) (opp d)) () (owe c l) rfl)
  isplitr; · iapply (inv_at m ρ K (bar_mem (up c d))); iexact HR
  isplitl [HO]; · iexact HO
  isplitl [Ht]; · iexact Ht
  isplitl [Hp]; · rw [payload_bar, up_opp]; iexact Hp
  iapply (reached_at m ρ K (bar_mem (up c d))); iexact HR

/-- The wait on the own barrier: the landing slabs of the three peers come with it, and the barrier is done with. -/
theorem meet {Q : α → sProp 𝕄} (K : GSem nD τ sig → ℕ) (c : Dev nD) (l : List Step) (hl : ∀ s ∈ l, 1 < s.level) (W : Waits sig Unit)
    {k' : ℕ} (hk : k' = 3) {k : PUnit → Prog (TpuEff nD τ sig (Elt F) Λ₀ .tc) α} :
    iprop(records m ρ K ∗ levAts L lv ∗ cred (tallyAt (bar c) () 3) ∗ owes (c : Thread nD τ) (owe c l) W ∗ atPos ER (bar c) 0 ∅ 0)
      ⊢ iprop((owes (c : Thread nD τ) (owe c l) (insert (.reg barS, ()) W) ∗ semVal (bar c) 0
              ∗ landing (up c 1) c ∗ landing (up c 2) c ∗ landing (up c 3) c -∗ run c (k ⟨⟩) Q)
          -∗ run c (.op (.semWait barS k') k) Q) := by
  subst hk
  iintro ⟨#HR, #Hlev, Hc, HO, Hat⟩ Hk
  ihave HI := (inv_at m ρ K (bar_mem c)) $$ HR
  iapply (Rounds.wp_wait_rest_token 𝒱₀ ER (Rd m ρ) (c : Thread nD τ) none (κ := K (bar c))
      (wpE_semWait_eq 𝒱₀ (c : Thread nD τ) none Set.univ) (Set.mem_univ _) () (O := owe c l) (W := W) (R := 0) (m := 0) (T := ∅)
      (by rw [expect_bar])) $$ [Hc HO Hat]
  · isplitr; · iapply (inv_at m ρ K (bar_mem c)); iexact HR
    isplitl [Hc]; · iexact Hc
    isplitl [HO]; · iexact HO
    isplitr; · iapply (mayWait c (.reg barS) l hl); iexact Hlev
    iexact Hat
  iintro ⟨HO, Hat, -, Hp⟩
  ihave Hp' := (Entails.of_eq (rest_bar m ρ c)) $$ Hp
  imod (Rounds.cell_close ER (Rd m ρ) (Set.mem_univ (K (bar c))) (fun h => h) (R := 0 + 1) (duties_later m ρ (bar c))) $$ [Hat] with Hz
  · isplitr; · iapply (inv_at m ρ K (bar_mem c)); iexact HR
    iexact Hat
  iapply Hk
  isplitl [HO]; · iexact HO
  isplitl [Hz]; · iexact Hz
  iexact Hp'

/-- A wait on one of the own transfer cells: its payload comes with it, and the cell is done with. -/
theorem take {Q : α → sProp 𝕄} (K : GSem nD τ sig → ℕ) (c : Dev nD) (k : Fin 4) (dir : Fin 2) (d : Fin 4) (hd : d ≠ 0) {s : DmaSem sig} (hs : s = dsem k dir d)
    (l : List Step) (hl : ∀ st ∈ l, semLevel (.dma (dsem k dir d)) < st.level) (W : Waits sig Unit)
    {sp sp' : Space} {s1 s2 : Shape} {e1 e2 : EltTy} {src : Memref sig .tc sp' s2 e2} {dst : Memref sig .tc sp s1 e1}
    {h1 : src.view.WordExact} {h2 : dst.view.WordExact} (hN : dst.view.dmaCredit = N k)
    {kk : PUnit → Prog (TpuEff nD τ sig (Elt F) Λ₀ .tc) α} :
    iprop(records m ρ K ∗ levAts L lv ∗ cred (tallyAt (cell c k dir d) () (N k)) ∗ owes (c : Thread nD τ) (owe c l) W ∗ atPos ER (cell c k dir d) 0 ∅ 0)
      ⊢ iprop((owes (c : Thread nD τ) (owe c l) (insert (.dma (dsem k dir d), ()) W) ∗ semVal (cell c k dir d) 0 ∗ xferPay m ρ k dir c d -∗ run c (kk ⟨⟩) Q)
          -∗ run c (.op (.waitDma2 s src dst h1 h2) kk) Q) := by
  subst hs
  iintro ⟨#HR, #Hlev, Hc, HO, Hat⟩ Hk
  iapply (Rounds.wp_wait_rest_token 𝒱₀ ER (Rd m ρ) (c : Thread nD τ) none (κ := K (cell c k dir d))
      (wpE_waitDma2_eq 𝒱₀ (c : Thread nD τ) none Set.univ) (Set.mem_univ _) () (O := owe c l) (W := W) (R := 0) (m := 0) (T := ∅)
      (by rw [expect_cell m ρ c k dir d hd, Nat.zero_add, hN])) $$ [Hc HO Hat]
  · isplitr; · iapply (inv_at m ρ K (cell_mem c k dir d)); iexact HR
    isplitl [Hc]; · rw [hN]; iexact Hc
    isplitl [HO]; · iexact HO
    isplitr; · iapply (mayWait c (.dma (dsem k dir d)) l hl); iexact Hlev
    iexact Hat
  iintro ⟨HO, Hat, -, Hp⟩
  ihave Hp' := (Entails.of_eq (rest_cell m ρ c k dir d hd)) $$ Hp
  imod (Rounds.cell_close ER (Rd m ρ) (Set.mem_univ (K (cell c k dir d))) (fun h => h) (R := 0 + 1) (duties_later m ρ (cell c k dir d))) $$ [Hat] with Hz
  · isplitr; · iapply (inv_at m ρ K (cell_mem c k dir d)); iexact HR
    iexact Hat
  iapply Hk
  isplitl [HO]; · iexact HO
  isplitl [Hz]; · iexact Hz
  iexact Hp'

/-! ## Copies -/

section Put
variable {a b : ℕ} {e : EltTy} {s2 : Shape}

/-- A slab without its leading dimension, as a copy addresses it. -/
abbrev flat (M : Memref sig .tc .vmem (Stk a b) e) (hq : (One a b).Squeezes s2) (o : Fin 3 → ℕ) (inb : ∀ x, (o : Fin 3 → ℕ) x + (One a b).size x ≤ (Stk a b).size x) : Memref sig .tc .vmem s2 e :=
  (M.slice (Rect.unit (s := Stk a b) o (One a b).size inb) (fun _ => rfl)).squeeze s2 hq

theorem flat_set (M : Memref sig .tc .vmem (Stk a b) e) (hq : (One a b).Squeezes s2) (s : Fin 4) (inb : ∀ x, (![s.val, 0, 0] : Fin 3 → ℕ) x + (One a b).size x ≤ (Stk a b).size x) :
    (flat M hq ![s.val, 0, 0] inb).view.set = (sView M s).set := View.set_reshape _ _

omit [FloatOps F] in
theorem flat_read {M M' : Memref sig .tc .vmem (Stk a b) e} {hq : (One a b).Squeezes s2} {s s' : Fin 4} {inb : ∀ x, (![s.val, 0, 0] : Fin 3 → ℕ) x + (One a b).size x ≤ (Stk a b).size x}
    {inb' : ∀ x, (![s'.val, 0, 0] : Fin 3 → ℕ) x + (One a b).size x ≤ (Stk a b).size x} {f : M.view.ty.Contents (Elt F)} {g : M'.view.ty.Contents (Elt F)}
    (h : (sView M s).read (Elt F) f = (sView M' s').read (Elt F) g) :
    (flat M hq ![s.val, 0, 0] inb).view.read (Elt F) f = (flat M' hq ![s'.val, 0, 0] inb').view.read (Elt F) g :=
  congrArg (fun X : (One a b).Idx → Elt F e => fun j : s2.Idx => X (Shape.reshapeEquiv hq.numel_eq j)) h

/-- The copy of kind `k` from `c` to `up c d`, from slab `s` of `M` to slab `s'` of `M'`: what it pays are the two
    payloads of the kind, and it gives the credits for its own send cell. -/
theorem put {Q : α → sProp 𝕄} (K : GSem nD τ sig → ℕ) (c n : Dev nD) (k d : Fin 4) (hd : d ≠ 0) (hn : n = up c d) (l : List Step) (W : Waits sig Unit)
    (M M' : Memref sig .tc .vmem (Stk a b) e) (hq : (One a b).Squeezes s2) (s s' : Fin 4) {o o' : Fin 3 → ℕ} (ho : o = ![s.val, 0, 0]) (ho' : o' = ![s'.val, 0, 0])
    {inb : ∀ x, (o : Fin 3 → ℕ) x + (One a b).size x ≤ (Stk a b).size x} {inb' : ∀ x, (o' : Fin 3 → ℕ) x + (One a b).size x ≤ (Stk a b).size x}
    {sS sR : DmaSem sig} (hS : sS = dsem k 0 d) (hR : sR = dsem k 1 d)
    {hsc : (flat M' hq o' inb').view.ref.isScScratch = false} {hsrc : (flat M hq o inb).view.WordExact} {hdst : (flat M' hq o' inb').view.WordExact}
    {hsem : DmaTarget.Typed .vmem (.dma sR) (.remote (Dev.tc n : Thread nD τ) (flat M' hq o' inb') (.dma sS) hsc)}
    {q : PosShare TreeShare} {fs : Buf (Elt F) (M.view.loc (c : Thread nD τ))} {fd : Buf (Elt F) (M'.view.loc (up c d : Thread nD τ))}
    (g : Buf (Elt F) (M'.view.loc (up c d : Thread nD τ)))
    (hg : (sView M s).read (Elt F) fs = (sView M' s').read (Elt F) g)
    (hN : (flat M' hq o' inb').view.dmaCredit = N k)
    (hp₁ : sendPay m ρ k c d = slab M c s q fs) (hp₂ : recvPay m ρ k (up c d) d = slab M' (up c d) s' fullShare g)
    {kk : PUnit → Prog (TpuEff nD τ sig (Elt F) Λ₀ .tc) α} :
    iprop(records m ρ K ∗ owes (c : Thread nD τ) (owe c (.put k d :: l)) W ∗ dutyTok ER (cell c k 0 d) 0 0 ∗ dutyTok ER (cell (up c d) k 1 d) 0 0
        ∗ slab M c s q fs ∗ slab M' (up c d) s' fullShare fd)
      ⊢ iprop((cred (tallyAt (cell c k 0 d) () (N k)) ∗ owes (c : Thread nD τ) (owe c l) W -∗ run c (kk ⟨⟩) Q)
          -∗ run c (.op (.enqueueDma (flat M hq o inb) (.remote (Dev.tc n : Thread nD τ) (flat M' hq o' inb') (.dma sS) hsc) (.dma sR) hsrc hdst hsem) kk) Q) := by
  subst hn ho ho' hS hR
  iintro ⟨#HR, HO, Ht, Ht', Hs, Hd⟩
  iapply (Rounds.wp_send_pointsTo 𝒱₀ ER (Rd m ρ) (c : Thread nD τ) none (κ₁ := K (cell c k 0 d)) (κ₂ := K (cell (up c d) k 1 d))
      (c' := (up c d : Thread nD τ)) (src := flat M hq ![s.val, 0, 0] inb) (dst := flat M' hq ![s'.val, 0, 0] inb')
      (sS := .dma (dsem k 0 d)) (sem := .dma (dsem k 1 d)) (r₁ := 0) (r₂ := 0) (d₁ := 0) (d₂ := 0) (fs := fs) (fd := fd) (q := q)
      (by rw [duties_cell m ρ c k 0 d hd]; exact Finset.mem_singleton_self _) (by rw [duties_cell m ρ (up c d) k 1 d hd]; exact Finset.mem_singleton_self _)
      () () (N k) hN (amount_cell m ρ c k 0 d 0) (amount_cell m ρ (up c d) k 1 d 0) (O₀ := owe c (.put k d :: l)) (owe c l) rfl (W := W)
      (by rw [payload_send, hp₁]; unfold slab; rw [flat_set M hq s inb])
      (by
        rw [payload_recv, hp₂]; unfold slab; rw [← flat_set M' hq s' inb']
        refine Entails.of_eq (pointsTo_congr (eqOn_of_read (flat M' hq ![s'.val, 0, 0] inb').view ?_))
        rw [View.read_write_univ]; exact flat_read hg))
  isplitr; · iapply (inv_at m ρ K (cell_mem c k 0 d)); iexact HR
  isplitr; · iapply (inv_at m ρ K (cell_mem (up c d) k 1 d)); iexact HR
  isplitl [Hs]; · unfold slab; rw [flat_set M hq s inb]; iexact Hs
  isplitl [Hd]; · unfold slab; rw [flat_set M' hq s' inb']; iexact Hd
  isplitl [HO]; · iexact HO
  isplitl [Ht]; · iexact Ht
  isplitr; · iapply (reached_at m ρ K (cell_mem c k 0 d)); iexact HR
  isplitl [Ht']; · iexact Ht'
  iapply (reached_at m ρ K (cell_mem (up c d) k 1 d)); iexact HR

end Put

/-! ## The same, in packets

  What the body passes from step to step comes in packets: the protocol's records (`ctx`), what the device owes
  (`owing`), what a copy needs (`link`), what the wait on a receive needs (`due`), what the wait on a send needs
  (`sent`). -/

def ctx (K : GSem nD τ sig → ℕ) : sProp 𝕄 := iprop(records m ρ K ∗ levAts L lv)
instance ctx_persistent (K : GSem nD τ sig → ℕ) : BI.Persistent (ctx m ρ K) := by unfold ctx; infer_instance

omit [FloatOps F] in
def owing (c : Dev nD) (l : List Step) : sProp 𝕄 := iprop(∃ W, owes (c : Thread nD τ) (owe c l) W)
omit [FloatOps F] in
def ring (c : Dev nD) (d : Fin 4) : sProp 𝕄 := dutyTok ER (bar (up c d)) 0 (opp d)
omit [FloatOps F] in
def expected (c : Dev nD) : sProp 𝕄 := iprop(cred (tallyAt (bar c) () 3) ∗ atPos ER (bar c) 0 ∅ 0)
omit [FloatOps F] in
def link (c : Dev nD) (k d : Fin 4) : sProp 𝕄 :=
  iprop(dutyTok ER (cell c k 0 d) 0 0 ∗ dutyTok ER (cell (up c d) k 1 d) 0 0 ∗ atPos ER (cell c k 0 d) 0 ∅ 0)
omit [FloatOps F] in
def due (c : Dev nD) (k d : Fin 4) : sProp 𝕄 := iprop(cred (tallyAt (cell c k 1 d) () (N k)) ∗ atPos ER (cell c k 1 d) 0 ∅ 0)
omit [FloatOps F] in
def sent (c : Dev nD) (k d : Fin 4) : sProp 𝕄 := iprop(cred (tallyAt (cell c k 0 d) () (N k)) ∗ atPos ER (cell c k 0 d) 0 ∅ 0)
omit [FloatOps F] in
/-- A transfer semaphore that is done with. -/
def idle (c : Dev nD) (k : Fin 4) (dir : Fin 2) (d : Fin 4) : sProp 𝕄 := semVal (cell c k dir d) 0

theorem ring_step {Q : α → sProp 𝕄} (K : GSem nD τ sig → ℕ) (c n : Dev nD) (d : Fin 4) (hd : d ≠ 0) (hn : n = up c d) (l : List Step)
    {k' : ℕ} (hk : k' = 1) {k : PUnit → Prog (TpuEff nD τ sig (Elt F) Λ₀ .tc) α} :
    iprop(ctx m ρ K ∗ owing c (.knock d :: l) ∗ ring c d ∗ landing c (up c d))
      ⊢ iprop((owing c l -∗ run c (k ⟨⟩) Q) -∗ run c (.op (.semSignal (Dev.tc n : Thread nD τ) barS k') k) Q) := by
  unfold ctx owing ring
  iintro ⟨⟨#HR, #Hlev⟩, ⟨%W, HO⟩, Ht, Hp⟩ Hk
  iapply (knock m ρ K c n d hd hn l W hk) $$ [HO Ht Hp]
  · isplitr; · iexact HR
    isplitl [HO]; · iexact HO
    isplitl [Ht] <;> iassumption
  iintro HO; iapply Hk; iexists W; iexact HO

theorem meet_step {Q : α → sProp 𝕄} (K : GSem nD τ sig → ℕ) (c : Dev nD) (l : List Step) (hl : ∀ s ∈ l, 1 < s.level)
    {k' : ℕ} (hk : k' = 3) {k : PUnit → Prog (TpuEff nD τ sig (Elt F) Λ₀ .tc) α} :
    iprop(ctx m ρ K ∗ owing c l ∗ expected c)
      ⊢ iprop((owing c l ∗ semVal (bar c) 0 ∗ landing (up c 1) c ∗ landing (up c 2) c ∗ landing (up c 3) c -∗ run c (k ⟨⟩) Q)
          -∗ run c (.op (.semWait barS k') k) Q) := by
  unfold ctx owing expected
  iintro ⟨⟨#HR, #Hlev⟩, ⟨%W, HO⟩, Hc, Hat⟩ Hk
  iapply (meet m ρ K c l hl W hk) $$ [HO Hc Hat]
  · isplitr; · iexact HR
    isplitr; · iexact Hlev
    isplitl [Hc]; · iexact Hc
    isplitl [HO] <;> iassumption
  iintro ⟨HO, Hr⟩; iapply Hk
  isplitl [HO]; · iexists _; iexact HO
  iexact Hr

section
variable {sp sp' : Space} {s1 s2 : Shape} {e1 e2 : EltTy} {src : Memref sig .tc sp' s2 e2} {dst : Memref sig .tc sp s1 e1}
  {h1 : src.view.WordExact} {h2 : dst.view.WordExact}

theorem recv_step {Q : α → sProp 𝕄} (K : GSem nD τ sig → ℕ) (c : Dev nD) (k d : Fin 4) (hd : d ≠ 0) {s : DmaSem sig} (hs : s = dsem k 1 d)
    (l : List Step) (hl : ∀ st ∈ l, rank k < st.level) (hN : dst.view.dmaCredit = N k) {kk : PUnit → Prog (TpuEff nD τ sig (Elt F) Λ₀ .tc) α} :
    iprop(ctx m ρ K ∗ owing c l ∗ due c k d)
      ⊢ iprop((owing c l ∗ idle c k 1 d ∗ recvPay m ρ k c d -∗ run c (kk ⟨⟩) Q)
          -∗ run c (.op (.waitDma2 s src dst h1 h2) kk) Q) := by
  unfold ctx owing due
  iintro ⟨⟨#HR, #Hlev⟩, ⟨%W, HO⟩, Hc, Hat⟩ Hk
  iapply (take m ρ K c k 1 d hd hs l (by rw [semLevel_recv]; exact hl) W hN) $$ [HO Hc Hat]
  · isplitr; · iexact HR
    isplitr; · iexact Hlev
    isplitl [Hc]; · iexact Hc
    isplitl [HO] <;> iassumption
  iintro ⟨HO, Hz, Hp⟩; iapply Hk
  isplitl [HO]; · iexists _; iexact HO
  isplitl [Hz]; · unfold idle; iexact Hz
  iapply (Entails.of_eq (show xferPay m ρ k 1 c d = recvPay m ρ k c d from if_neg (by decide))); iexact Hp

theorem sent_step {Q : α → sProp 𝕄} (K : GSem nD τ sig → ℕ) (c : Dev nD) (k d : Fin 4) (hd : d ≠ 0) {s : DmaSem sig} (hs : s = dsem k 0 d)
    (hN : dst.view.dmaCredit = N k) {kk : PUnit → Prog (TpuEff nD τ sig (Elt F) Λ₀ .tc) α} :
    iprop(ctx m ρ K ∗ owing c [] ∗ sent c k d)
      ⊢ iprop((owing c [] ∗ idle c k 0 d ∗ sendPay m ρ k c d -∗ run c (kk ⟨⟩) Q)
          -∗ run c (.op (.waitDma2 s src dst h1 h2) kk) Q) := by
  unfold ctx owing sent
  iintro ⟨⟨#HR, #Hlev⟩, ⟨%W, HO⟩, Hc, Hat⟩ Hk
  iapply (take m ρ K c k 0 d hd hs [] (fun st h => absurd h List.not_mem_nil) W hN) $$ [HO Hc Hat]
  · isplitr; · iexact HR
    isplitr; · iexact Hlev
    isplitl [Hc]; · iexact Hc
    isplitl [HO] <;> iassumption
  iintro ⟨HO, Hz, Hp⟩; iapply Hk
  isplitl [HO]; · iexists _; iexact HO
  isplitl [Hz]; · unfold idle; iexact Hz
  iapply (Entails.of_eq (show xferPay m ρ k 0 c d = sendPay m ρ k c d from if_pos rfl)); iexact Hp
end

section
variable {a b : ℕ} {e : EltTy} {s2 : Shape} {M M' : Memref sig .tc .vmem (Stk a b) e} {hq : (One a b).Squeezes s2} {o o' : Fin 3 → ℕ}
  {inb : ∀ x, o x + (One a b).size x ≤ (Stk a b).size x} {inb' : ∀ x, o' x + (One a b).size x ≤ (Stk a b).size x}
  {sS sR : DmaSem sig} {n : Dev nD}
  {hsc : (flat M' hq o' inb').view.ref.isScScratch = false} {hsrc : (flat M hq o inb).view.WordExact} {hdst : (flat M' hq o' inb').view.WordExact}
  {hsem : DmaTarget.Typed .vmem (.dma sR) (.remote (Dev.tc n : Thread nD τ) (flat M' hq o' inb') (.dma sS) hsc)}

theorem put_step {Q : α → sProp 𝕄} (K : GSem nD τ sig → ℕ) (c : Dev nD) (k d : Fin 4) (hd : d ≠ 0) (hn : n = up c d) (l : List Step)
    (s s' : Fin 4) (ho : o = ![s.val, 0, 0]) (ho' : o' = ![s'.val, 0, 0]) (hS : sS = dsem k 0 d) (hR : sR = dsem k 1 d)
    {q : PosShare TreeShare} (fs : Buf (Elt F) (M.view.loc (c : Thread nD τ))) (g : Buf (Elt F) (M'.view.loc (up c d : Thread nD τ)))
    (hg : (sView M s).read (Elt F) fs = (sView M' s').read (Elt F) g)
    (hN : (flat M' hq o' inb').view.dmaCredit = N k)
    (hp₁ : sendPay m ρ k c d = slab M c s q fs) (hp₂ : recvPay m ρ k (up c d) d = slab M' (up c d) s' fullShare g)
    (hh : (hole k (up c d) c : sProp 𝕄) = iprop(∃ f, slab M' (up c d) s' fullShare f))
    {kk : PUnit → Prog (TpuEff nD τ sig (Elt F) Λ₀ .tc) α} :
    iprop(ctx m ρ K ∗ owing c (.put k d :: l) ∗ link c k d ∗ sendPay m ρ k c d ∗ hole k (up c d) c)
      ⊢ iprop((owing c l ∗ sent c k d -∗ run c (kk ⟨⟩) Q)
          -∗ run c (.op (.enqueueDma (flat M hq o inb) (.remote (Dev.tc n : Thread nD τ) (flat M' hq o' inb') (.dma sS) hsc) (.dma sR) hsrc hdst hsem) kk) Q) := by
  unfold ctx owing link sent
  rw [hh]
  iintro ⟨⟨#HR, #Hlev⟩, ⟨%W, HO⟩, ⟨Ht, Ht', Hat⟩, Hs, ⟨%fd, Hd⟩⟩ Hk
  iapply (put m ρ K c n k d hd hn l W M M' hq s s' ho ho' hS hR g hg hN hp₁ hp₂ (fd := fd)) $$ [HO Ht Ht' Hs Hd]
  · isplitr; · iexact HR
    isplitl [HO]; · iexact HO
    isplitl [Ht]; · iexact Ht
    isplitl [Ht']; · iexact Ht'
    isplitl [Hs]; · iapply (Entails.of_eq hp₁); iexact Hs
    iexact Hd
  iintro ⟨Hc, HO⟩; iapply Hk
  isplitl [HO]; · iexists W; iexact HO
  isplitl [Hc] <;> iassumption

end

/-! ### The four kinds of copies -/

section
variable {n : Dev nD} {o o' : Fin 3 → ℕ} {sS sR : DmaSem sig}

theorem put_x {Q : α → sProp 𝕄} (K : GSem nD τ sig → ℕ) (c : Dev nD) (d : Fin 4) (hd : d ≠ 0) (hn : n = up c d) (l : List Step)
    (ho : o = ![c.val, 0, 0]) (hS : sS = dsem 0 0 d) (hR : sR = dsem 0 1 d)
    {inb : ∀ x, o x + S1x128x512.size x ≤ S4x128x512.size x}
    {hsc hsrc hdst hsem} {kk : PUnit → Prog (TpuEff nD τ sig (Elt F) Λ₀ .tc) α} :
    iprop(ctx m ρ K ∗ owing c (.put 0 d :: l) ∗ link c 0 d ∗ sendPay m ρ 0 c d ∗ hole 0 (up c d) c)
      ⊢ iprop((owing c l ∗ sent c 0 d -∗ run c (kk ⟨⟩) Q)
          -∗ run c (.op (.enqueueDma ((xA.slice (Rect.unit (s := S4x128x512) o S1x128x512.size inb) (fun _ => rfl)).squeeze S128x512 squeezes_S1x128x512_S128x512)
              (.remote (Dev.tc n : Thread nD τ) ((xA.slice (Rect.unit (s := S4x128x512) o S1x128x512.size inb) (fun _ => rfl)).squeeze S128x512 squeezes_S1x128x512_S128x512) (.dma sS) hsc)
              (.dma sR) hsrc hdst hsem) kk) Q) :=
  put_step m ρ K c 0 d hd hn l c c ho ho hS hR (xAll m ρ c) (xAll m ρ (up c d)) rfl rfl rfl
    (by unfold recvPay; rw [dn_up]) rfl

theorem put_r {Q : α → sProp 𝕄} (K : GSem nD τ sig → ℕ) (c : Dev nD) (d : Fin 4) (hd : d ≠ 0) (hn : n = up c d) (l : List Step)
    (ho : o = ![c.val, 0, 0]) (hS : sS = dsem 1 0 d) (hR : sR = dsem 1 1 d)
    {inb : ∀ x, o x + S1x512x2.size x ≤ S4x512x2.size x}
    {hsc hsrc hdst hsem} {kk : PUnit → Prog (TpuEff nD τ sig (Elt F) Λ₀ .tc) α} :
    iprop(ctx m ρ K ∗ owing c (.put 1 d :: l) ∗ link c 1 d ∗ sendPay m ρ 1 c d ∗ hole 1 (up c d) c)
      ⊢ iprop((owing c l ∗ sent c 1 d -∗ run c (kk ⟨⟩) Q)
          -∗ run c (.op (.enqueueDma ((rA.slice (Rect.unit (s := S4x512x2) o S1x512x2.size inb) (fun _ => rfl)).squeeze S512x2 squeezes_S1x512x2_S512x2)
              (.remote (Dev.tc n : Thread nD τ) ((rA.slice (Rect.unit (s := S4x512x2) o S1x512x2.size inb) (fun _ => rfl)).squeeze S512x2 squeezes_S1x512x2_S512x2) (.dma sS) hsc)
              (.dma sR) hsrc hdst hsem) kk) Q) :=
  put_step m ρ K c 1 d hd hn l c c ho ho hS hR (rAllAt m ρ c) (rAllAt m ρ (up c d)) rfl rfl rfl
    (by unfold recvPay; rw [dn_up]) rfl

theorem put_w {Q : α → sProp 𝕄} (K : GSem nD τ sig → ℕ) (c : Dev nD) (d : Fin 4) (hd : d ≠ 0) (hn : n = up c d) (l : List Step)
    (ho : o = ![c.val, 0, 0]) (hS : sS = dsem 2 0 d) (hR : sR = dsem 2 1 d)
    {inb : ∀ x, o x + S1x128x8.size x ≤ S4x128x8.size x}
    {hsc hsrc hdst hsem} {kk : PUnit → Prog (TpuEff nD τ sig (Elt F) Λ₀ .tc) α} :
    iprop(ctx m ρ K ∗ owing c (.put 2 d :: l) ∗ link c 2 d ∗ sendPay m ρ 2 c d ∗ hole 2 (up c d) c)
      ⊢ iprop((owing c l ∗ sent c 2 d -∗ run c (kk ⟨⟩) Q)
          -∗ run c (.op (.enqueueDma ((wA.slice (Rect.unit (s := S4x128x8) o S1x128x8.size inb) (fun _ => rfl)).squeeze S128x8 squeezes_S1x128x8_S128x8)
              (.remote (Dev.tc n : Thread nD τ) ((wA.slice (Rect.unit (s := S4x128x8) o S1x128x8.size inb) (fun _ => rfl)).squeeze S128x8 squeezes_S1x128x8_S128x8) (.dma sS) hsc)
              (.dma sR) hsrc hdst hsem) kk) Q) :=
  put_step m ρ K c 2 d hd hn l c c ho ho hS hR (wAll m ρ c) (wAll m ρ (up c d)) rfl rfl rfl
    (by unfold recvPay; rw [dn_up]) rfl

theorem put_c {Q : α → sProp 𝕄} (K : GSem nD τ sig → ℕ) (c : Dev nD) (d : Fin 4) (hd : d ≠ 0) (hn : n = up c d) (l : List Step)
    (ho : o = ![(up c d).val, 0, 0]) (ho' : o' = ![c.val, 0, 0]) (hS : sS = dsem 3 0 d) (hR : sR = dsem 3 1 d)
    {inb : ∀ x, o x + S1x128x512.size x ≤ S4x128x512.size x} {inb' : ∀ x, o' x + S1x128x512.size x ≤ S4x128x512.size x}
    {hsc hsrc hdst hsem} {kk : PUnit → Prog (TpuEff nD τ sig (Elt F) Λ₀ .tc) α} :
    iprop(ctx m ρ K ∗ owing c (.put 3 d :: l) ∗ link c 3 d ∗ sendPay m ρ 3 c d ∗ hole 3 (up c d) c)
      ⊢ iprop((owing c l ∗ sent c 3 d -∗ run c (kk ⟨⟩) Q)
          -∗ run c (.op (.enqueueDma ((pA.slice (Rect.unit (s := S4x128x512) o S1x128x512.size inb) (fun _ => rfl)).squeeze S128x512 squeezes_S1x128x512_S128x512)
              (.remote (Dev.tc n : Thread nD τ) ((cA.slice (Rect.unit (s := S4x128x512) o' S1x128x512.size inb') (fun _ => rfl)).squeeze S128x512 squeezes_S1x128x512_S128x512) (.dma sS) hsc)
              (.dma sR) hsrc hdst hsem) kk) Q) :=
  put_step m ρ K c 3 d hd hn l (up c d) c ho ho' hS hR (pAll m ρ c) (cAll m ρ (up c d))
    ((funext fun j => stack_emb (pB m ρ c) (up c d) j).trans (funext fun j => (stack_emb (fun s => pB m ρ s (up c d)) c j).symm)) rfl rfl
    (by unfold recvPay; rw [dn_up]) rfl

end

end Cert.Moe

end
-- ==== Proof.Parts.lean ====
/-
  The first half of the kernel's body, part by part: the meeting at the barrier, the sending of tokens and router
  columns, the gate weights of the own tokens and their sending, and the own experts' results for the own tokens.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## The peers and offsets the kernel computes -/

theorem dev1_eq (c : Dev nD) : (⟨k0_dev1 c, k0_dev1_lt c⟩ : Dev nD) = up c 1 := by revert c; decide +kernel
theorem dev2_eq (c : Dev nD) : (⟨k0_dev2 c, k0_dev2_lt c⟩ : Dev nD) = up c 2 := by revert c; decide +kernel
theorem dev3_eq (c : Dev nD) : (⟨k0_dev3 c, k0_dev3_lt c⟩ : Dev nD) = up c 3 := by revert c; decide +kernel
theorem dev4_eq (c : Dev nD) : (⟨k0_dev4 c, k0_dev4_lt c⟩ : Dev nD) = up c 1 := by revert c; decide +kernel
theorem dev5_eq (c : Dev nD) : (⟨k0_dev5 c, k0_dev5_lt c⟩ : Dev nD) = up c 1 := by revert c; decide +kernel
theorem dev6_eq (c : Dev nD) : (⟨k0_dev6 c, k0_dev6_lt c⟩ : Dev nD) = up c 2 := by revert c; decide +kernel
theorem dev7_eq (c : Dev nD) : (⟨k0_dev7 c, k0_dev7_lt c⟩ : Dev nD) = up c 2 := by revert c; decide +kernel
theorem dev8_eq (c : Dev nD) : (⟨k0_dev8 c, k0_dev8_lt c⟩ : Dev nD) = up c 3 := by revert c; decide +kernel
theorem dev9_eq (c : Dev nD) : (⟨k0_dev9 c, k0_dev9_lt c⟩ : Dev nD) = up c 3 := by revert c; decide +kernel
theorem dev10_eq (c : Dev nD) : (⟨k0_dev10 c, k0_dev10_lt c⟩ : Dev nD) = up c 1 := by revert c; decide +kernel
theorem dev11_eq (c : Dev nD) : (⟨k0_dev11 c, k0_dev11_lt c⟩ : Dev nD) = up c 2 := by revert c; decide +kernel
theorem dev12_eq (c : Dev nD) : (⟨k0_dev12 c, k0_dev12_lt c⟩ : Dev nD) = up c 3 := by revert c; decide +kernel
theorem dev13_eq (c : Dev nD) : (⟨k0_dev13 c, k0_dev13_lt c⟩ : Dev nD) = up c 3 := by revert c; decide +kernel
theorem dev14_eq (c : Dev nD) : (⟨k0_dev14 c, k0_dev14_lt c⟩ : Dev nD) = up c 1 := by revert c; decide +kernel
theorem dev15_eq (c : Dev nD) : (⟨k0_dev15 c, k0_dev15_lt c⟩ : Dev nD) = up c 2 := by revert c; decide +kernel

theorem dn_eq_up (c : Dev nD) (d : Fin 4) : dn c d = up c (opp d) := by revert c d; decide

theorem off8_1 (c : Dev nD) : k0_off8 c 1#32 = ![(up c 3).val, 0, 0] := by revert c; decide +kernel
theorem off8_2 (c : Dev nD) : k0_off8 c 2#32 = ![(up c 2).val, 0, 0] := by revert c; decide +kernel
theorem off8_3 (c : Dev nD) : k0_off8 c 3#32 = ![(up c 1).val, 0, 0] := by revert c; decide +kernel
theorem off9_1 (c : Dev nD) : k0_off9 c 1#32 = ![(up c 3).val, 0, 0] := by revert c; decide +kernel
theorem off9_2 (c : Dev nD) : k0_off9 c 2#32 = ![(up c 2).val, 0, 0] := by revert c; decide +kernel
theorem off9_3 (c : Dev nD) : k0_off9 c 3#32 = ![(up c 1).val, 0, 0] := by revert c; decide +kernel
theorem off11_1 (c : Dev nD) : k0_off11 c 1#32 = ![(up c 3).val, 0, 0] := by revert c; decide +kernel
theorem off11_2 (c : Dev nD) : k0_off11 c 2#32 = ![(up c 2).val, 0, 0] := by revert c; decide +kernel
theorem off11_3 (c : Dev nD) : k0_off11 c 3#32 = ![(up c 1).val, 0, 0] := by revert c; decide +kernel

/-! ## The kernel's parts, applied to its buffers and semaphores -/

/-- A part of the body at the buffers and semaphores the kernel is launched on. -/
abbrev onArgs.{u} {β : Sort u} (f : (arg0 : Memref sig .tc .vmem S128x512 .f32) → arg0.IsWhole → (arg1 : Memref sig .tc .vmem S512x2 .f32) → arg1.IsWhole
    → (arg2 : Memref sig .tc .vmem S2x512x1024 .f32) → arg2.IsWhole → (arg3 : Memref sig .tc .vmem S2x1024x512 .f32) → arg3.IsWhole
    → (arg4 : Memref sig .tc .vmem S128x512 .f32) → arg4.IsWhole → (arg5 : Memref sig .tc .vmem S4x128x512 .bf16) → arg5.IsWhole
    → (arg6 : Memref sig .tc .vmem S4x512x2 .f32) → arg6.IsWhole → (arg7 : Memref sig .tc .vmem S4x128x8 .f32) → arg7.IsWhole
    → (arg8 : Memref sig .tc .vmem S4x128x512 .bf16) → arg8.IsWhole → (arg9 : Memref sig .tc .vmem S4x128x512 .bf16) → arg9.IsWhole
    → DmaSems sig S4 → DmaSems sig S4 → DmaSems sig S4 → DmaSems sig S4 → DmaSems sig S4 → DmaSems sig S4 → DmaSems sig S4 → DmaSems sig S4 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12

/-- A whole staging buffer of device `c`. -/
abbrev held (c : Dev nD) (b : Ref sig .tc) (X : b.ty.Contents (Elt F)) : sProp 𝕄 := ((c : Thread nD τ).loc b) ↦{fullShare} X

theorem zero2 : (![0, 0] : Fin 2 → Nat) = fun _ => 0 := funext fun a => by fin_cases a <;> rfl
theorem zero3 : (![0, 0, 0] : Fin 3 → Nat) = fun _ => 0 := funext fun a => by fin_cases a <;> rfl

/-! What the waits take off their semaphores is what the copies credit. -/

theorem credit_x {o : Fin 3 → ℕ} {inb : ∀ x, o x + S1x128x512.size x ≤ S4x128x512.size x} :
    ((xA.slice (Rect.unit (s := S4x128x512) o S1x128x512.size inb) (fun _ => rfl)).squeeze S128x512 squeezes_S1x128x512_S128x512).view.dmaCredit = N 0 := rfl
theorem credit_r {o : Fin 3 → ℕ} {inb : ∀ x, o x + S1x512x2.size x ≤ S4x512x2.size x} :
    ((rA.slice (Rect.unit (s := S4x512x2) o S1x512x2.size inb) (fun _ => rfl)).squeeze S512x2 squeezes_S1x512x2_S512x2).view.dmaCredit = N 1 := rfl
theorem credit_w {o : Fin 3 → ℕ} {inb : ∀ x, o x + S1x128x8.size x ≤ S4x128x8.size x} :
    ((wA.slice (Rect.unit (s := S4x128x8) o S1x128x8.size inb) (fun _ => rfl)).squeeze S128x8 squeezes_S1x128x8_S128x8).view.dmaCredit = N 2 := rfl
theorem credit_c {o : Fin 3 → ℕ} {inb : ∀ x, o x + S1x128x512.size x ≤ S4x128x512.size x} :
    ((cA.slice (Rect.unit (s := S4x128x512) o S1x128x512.size inb) (fun _ => rfl)).squeeze S128x512 squeezes_S1x128x512_S128x512).view.dmaCredit = N 3 := rfl
theorem credit_p {o : Fin 3 → ℕ} {inb : ∀ x, o x + S1x128x512.size x ≤ S4x128x512.size x} :
    ((pA.slice (Rect.unit (s := S4x128x512) o S1x128x512.size inb) (fun _ => rfl)).squeeze S128x512 squeezes_S1x128x512_S128x512).view.dmaCredit = N 3 := rfl

theorem run_ret {Q : α → sProp 𝕄} (c : Dev nD) (v : α) : Q v ⊢ run c (.ret v) Q := by
  unfold run
  rw [wp_ret]
  iintro H; imodintro; iexact H

/-- The barrier word of the device and the two first signals. -/
theorem part1 {Q : (Σ' (d0 : Dev nD) (v2 : BitVec 32) (v3 : Sems sig S_) (v30 : BitVec 32) (w : BitVec 32), BitVec 1) → sProp 𝕄} (K : GSem nD τ sig → ℕ) (c : Dev nD) :
    iprop(ctx m ρ K ∗ owing c steps ∗ (ring c 1 ∗ landing c (up c 1)) ∗ (ring c 2 ∗ landing c (up c 2)))
      ⊢ iprop((∀ v v' v'', owing c (.knock 3 :: stepsX) -∗ Q ⟨c, me c, SemArray.scalar (sig.barrier 0 rfl), v, v', v''⟩) -∗ run c (onArgs k0_part1) Q) := by
  simp only [onArgs, k0_part1_eq_skeleton]; unfold k0_part1_skel
  simp only [semSignalWord, semWaitWord, Prog.lift, Prog.bind_op, Prog.bind_ret, Prog.pure_eq_ret, wp_deviceId]
  iintro ⟨#HC, HO, ⟨Ht, Hl⟩, Ht', Hl'⟩ Hk
  iapply (ring_step m ρ K c _ 1 (by decide) (dev1_eq c) (.knock 2 :: .knock 3 :: stepsX) (by decide)) $$ [HO Ht Hl]
  · isplitr; · iexact HC
    isplitl [HO]; · iexact HO
    isplitl [Ht] <;> iassumption
  iintro HO
  iapply (ring_step m ρ K c _ 2 (by decide) (dev2_eq c) (.knock 3 :: stepsX) (by decide)) $$ [HO Ht' Hl']
  · isplitr; · iexact HC
    isplitl [HO]; · iexact HO
    isplitl [Ht'] <;> iassumption
  iintro HO
  iapply (run_ret (Q := Q) c ⟨c, me c, SemArray.scalar (sig.barrier 0 rfl), _, _, _⟩); iapply Hk; iexact HO

/-- The third signal, the meeting, and the own tokens and router columns put into their slabs. -/
theorem part2 {Q : (Σ' (v58 : BitVec 32) (v59 : BitVec 32) (v60 : BitVec 1), BitVec 1) → sProp 𝕄} (K : GSem nD τ sig → ℕ) (c : Dev nD) (v v' : BitVec 32) (v'' : BitVec 1) :
    iprop(ctx m ρ K ∗ owing c (.knock 3 :: stepsX) ∗ (ring c 3 ∗ landing c (up c 3)) ∗ expected c
        ∗ held c cc0_stg0_0 (xst m ρ c) ∗ held c cc0_stg1_0 (rst m ρ c) ∗ (∃ f, slab xA c c fullShare f) ∗ (∃ f, slab rA c c fullShare f))
      ⊢ iprop((∀ r, owing c stepsX ∗ semVal (bar c) 0 ∗ landing (up c 1) c ∗ landing (up c 2) c ∗ landing (up c 3) c
            ∗ held c cc0_stg0_0 (xst m ρ c) ∗ held c cc0_stg1_0 (rst m ρ c) ∗ slab xA c c fullShare (xAll m ρ c) ∗ slab rA c c fullShare (rAllAt m ρ c) -∗ Q r)
          -∗ run c (onArgs k0_part2 c (me c) (SemArray.scalar (sig.barrier 0 rfl)) v v' v'') Q) := by
  simp only [onArgs, k0_part2_eq_skeleton]; unfold k0_part2_skel
  simp only [semSignalWord, semWaitWord, Prog.lift, Prog.bind_op, Prog.bind_ret, Prog.pure_eq_ret]
  iintro ⟨#HC, HO, ⟨Ht, Hl⟩, He, Hx, Hr, ⟨%fx, Hsx⟩, ⟨%fr, Hsr⟩⟩ Hk
  iapply (ring_step m ρ K c _ 3 (by decide) (dev3_eq c) stepsX (by decide)) $$ [HO Ht Hl]
  · isplitr; · iexact HC
    isplitl [HO]; · iexact HO
    isplitl [Ht] <;> iassumption
  iintro HO
  iapply (meet_step m ρ K c stepsX (by decide) (by decide)) $$ [HO He]
  · isplitr; · iexact HC
    isplitl [HO] <;> iassumption
  iintro ⟨HO, Hz, HL1, HL2, HL3⟩
  iapply (wp_load 𝒱₀ (c : Thread nD τ) none Set.univ (m := xM) (Finset.subset_univ _)) $$ Hx; iintro Hx
  rw [show (xM).view.readAt (Elt F) (Rect.unit (s := S128x512) ![0, 0] S128x512.size inb_S128x512_S128x512_0_0).toLoadRect (xst m ρ c) = xst m ρ c from Memref.readAt_unit_zero (Elt F) cc0_stg0_0 zero2 _ _]
  iapply (load_slab_any xA c c (k0_off1_eq c)) $$ Hsx; iintro %_ Hsx
  iapply (store_slab xA c c (xAll m ρ c) (k0_off1_eq c) (funext fun j => stack_emb (xB m ρ) c j)) $$ Hsx; iintro Hsx
  iapply (wp_load 𝒱₀ (c : Thread nD τ) none Set.univ (m := rM) (Finset.subset_univ _)) $$ Hr; iintro Hr
  rw [show (rM).view.readAt (Elt F) (Rect.unit (s := S512x2) ![0, 0] S512x2.size inb_S512x2_S512x2_0_0).toLoadRect (rst m ρ c) = rst m ρ c from Memref.readAt_unit_zero (Elt F) cc0_stg1_0 zero2 _ _]
  iapply (load_slab_any rA c c (k0_off2_eq c)) $$ Hsr; iintro %_ Hsr
  iapply (store_slab rA c c (rAllAt m ρ c) (k0_off2_eq c) (funext fun j => stack_emb (rB m ρ) c j)) $$ Hsr; iintro Hsr
  iapply run_ret; iapply Hk
  isplitl [HO]; · iexact HO
  isplitl [Hz]; · iexact Hz
  isplitl [HL1]; · iexact HL1
  isplitl [HL2]; · iexact HL2
  isplitl [HL3]; · iexact HL3
  isplitl [Hx]; · iexact Hx
  isplitl [Hr]; · iexact Hr
  isplitl [Hsx] <;> iassumption

/-- Tokens and router columns sent one place on, -/
theorem part3 {Q : BitVec 32 → sProp 𝕄} (K : GSem nD τ sig → ℕ) (c : Dev nD) (v v' : BitVec 32) (b b' : BitVec 1) :
    iprop(ctx m ρ K ∗ owing c stepsX ∗ (link c 0 1 ∗ sendPay m ρ 0 c 1 ∗ hole 0 (up c 1) c) ∗ (link c 1 1 ∗ sendPay m ρ 1 c 1 ∗ hole 1 (up c 1) c))
      ⊢ iprop((∀ r, owing c (.put 0 2 :: .put 1 2 :: .put 0 3 :: .put 1 3 :: stepsW) ∗ sent c 0 1 ∗ sent c 1 1 -∗ Q r)
          -∗ run c (onArgs k0_part3 c (me c) v v' b b') Q) := by
  simp only [onArgs, k0_part3_eq_skeleton]; unfold k0_part3_skel
  simp only [Prog.lift, Prog.bind_op, Prog.bind_ret, Prog.pure_eq_ret]
  iintro ⟨#HC, HO, Hp, Hp'⟩ Hk
  iapply (put_x m ρ K c 1 (by decide) (dev4_eq c) (.put 1 1 :: .put 0 2 :: .put 1 2 :: .put 0 3 :: .put 1 3 :: stepsW) (k0_off3_eq c) rfl rfl) $$ [HO Hp]
  · isplitr; · iexact HC
    isplitl [HO] <;> iassumption
  iintro ⟨HO, Hs⟩
  iapply (put_r m ρ K c 1 (by decide) (dev5_eq c) (.put 0 2 :: .put 1 2 :: .put 0 3 :: .put 1 3 :: stepsW) (k0_off4_eq c) rfl rfl) $$ [HO Hp']
  · isplitr; · iexact HC
    isplitl [HO] <;> iassumption
  iintro ⟨HO, Hs'⟩
  iapply run_ret; iapply Hk
  isplitl [HO]; · iexact HO
  isplitl [Hs] <;> iassumption

/-- two places on, -/
theorem part4 {Q : (Σ' (v128 : BitVec 32) (v129 : BitVec 32), BitVec 32) → sProp 𝕄} (K : GSem nD τ sig → ℕ) (c : Dev nD) (v : BitVec 32) :
    iprop(ctx m ρ K ∗ owing c (.put 0 2 :: .put 1 2 :: .put 0 3 :: .put 1 3 :: stepsW) ∗ (link c 0 2 ∗ sendPay m ρ 0 c 2 ∗ hole 0 (up c 2) c) ∗ (link c 1 2 ∗ sendPay m ρ 1 c 2 ∗ hole 1 (up c 2) c))
      ⊢ iprop((∀ r, owing c (.put 0 3 :: .put 1 3 :: stepsW) ∗ sent c 0 2 ∗ sent c 1 2 -∗ Q r)
          -∗ run c (onArgs k0_part4 c (me c) v) Q) := by
  simp only [onArgs, k0_part4_eq_skeleton]; unfold k0_part4_skel
  simp only [Prog.lift, Prog.bind_op, Prog.bind_ret, Prog.pure_eq_ret]
  iintro ⟨#HC, HO, Hp, Hp'⟩ Hk
  iapply (put_x m ρ K c 2 (by decide) (dev6_eq c) (.put 1 2 :: .put 0 3 :: .put 1 3 :: stepsW) (k0_off3_eq c) rfl rfl) $$ [HO Hp]
  · isplitr; · iexact HC
    isplitl [HO] <;> iassumption
  iintro ⟨HO, Hs⟩
  iapply (put_r m ρ K c 2 (by decide) (dev7_eq c) (.put 0 3 :: .put 1 3 :: stepsW) (k0_off4_eq c) rfl rfl) $$ [HO Hp']
  · isplitr; · iexact HC
    isplitl [HO] <;> iassumption
  iintro ⟨HO, Hs'⟩
  iapply run_ret; iapply Hk
  isplitl [HO]; · iexact HO
  isplitl [Hs] <;> iassumption

/-- three places on; and the own experts' matrices read. -/
theorem part5 {Q : (Σ' (v151 : FVec F S512x1024 .bf16) (v154 : FVec F S512x1024 .bf16) (v157 : FVec F S1024x512 .bf16) (v160 : FVec F S1024x512 .bf16) (v161 : BitVec 32), BitVec 32) → sProp 𝕄}
    (K : GSem nD τ sig → ℕ) (c : Dev nD) (v v' v'' : BitVec 32) :
    iprop(ctx m ρ K ∗ owing c (.put 0 3 :: .put 1 3 :: stepsW) ∗ (link c 0 3 ∗ sendPay m ρ 0 c 3 ∗ hole 0 (up c 3) c) ∗ (link c 1 3 ∗ sendPay m ρ 1 c 3 ∗ hole 1 (up c 3) c)
        ∗ held c cc0_stg2_0 (ust m ρ c) ∗ held c cc0_stg3_0 (vst m ρ c))
      ⊢ iprop((∀ r r', owing c stepsW ∗ sent c 0 3 ∗ sent c 1 3 ∗ held c cc0_stg2_0 (ust m ρ c) ∗ held c cc0_stg3_0 (vst m ρ c)
              -∗ Q ⟨k0_pay3 (u0 m ρ c), k0_pay4 (u1 m ρ c), k0_pay5 (v0 m ρ c), k0_pay6 (v1 m ρ c), r, r'⟩)
          -∗ run c (onArgs k0_part5 c (me c) v v' v'') Q) := by
  simp only [onArgs, k0_part5_eq_skeleton]; unfold k0_part5_skel
  simp only [Prog.lift, Prog.bind_op, Prog.bind_ret, Prog.pure_eq_ret]
  iintro ⟨#HC, HO, Hp, Hp', Hu, Hv⟩ Hk
  iapply (put_x m ρ K c 3 (by decide) (dev8_eq c) (.put 1 3 :: stepsW) (k0_off3_eq c) rfl rfl) $$ [HO Hp]
  · isplitr; · iexact HC
    isplitl [HO] <;> iassumption
  iintro ⟨HO, Hs⟩
  iapply (put_r m ρ K c 3 (by decide) (dev9_eq c) stepsW (k0_off4_eq c) rfl rfl) $$ [HO Hp']
  · isplitr; · iexact HC
    isplitl [HO] <;> iassumption
  iintro ⟨HO, Hs'⟩
  iapply (wp_load 𝒱₀ (c : Thread nD τ) none Set.univ (m := uM) (Finset.subset_univ _)) $$ Hu; iintro Hu
  iapply (wp_load 𝒱₀ (c : Thread nD τ) none Set.univ (m := uM) (Finset.subset_univ _)) $$ Hu; iintro Hu
  iapply (wp_load 𝒱₀ (c : Thread nD τ) none Set.univ (m := vM) (Finset.subset_univ _)) $$ Hv; iintro Hv
  iapply (wp_load 𝒱₀ (c : Thread nD τ) none Set.univ (m := vM) (Finset.subset_univ _)) $$ Hv; iintro Hv
  iapply run_ret; iapply Hk
  isplitl [HO]; · iexact HO
  isplitl [Hs]; · iexact Hs
  isplitl [Hs']; · iexact Hs'
  isplitl [Hu] <;> iassumption

/-- The router columns of the device one place back arrive, -/
theorem part6 {Q : PUnit → sProp 𝕄} (K : GSem nD τ sig → ℕ) (c : Dev nD) (v v' : BitVec 32) :
    iprop(ctx m ρ K ∗ owing c stepsW ∗ due c 1 1)
      ⊢ iprop((owing c stepsW ∗ idle c 1 1 1 ∗ recvPay m ρ 1 c 1 -∗ Q ⟨⟩) -∗ run c (onArgs k0_part6 c (me c) v v') Q) := by
  simp only [onArgs, k0_part6_eq_skeleton]; unfold k0_part6_skel
  simp only [Prog.lift, Prog.bind_op, Prog.bind_ret, Prog.pure_eq_ret]
  iintro ⟨#HC, HO, Hd⟩ Hk
  iapply (recv_step m ρ K c 1 1 (by decide) rfl stepsW (by decide) credit_r) $$ [HO Hd]
  · isplitr; · iexact HC
    isplitl [HO] <;> iassumption
  iintro H
  iapply run_ret; iapply Hk; iexact H

/-! ### Whole stacks read -/

section Whole
variable {a b : ℕ} {e : EltTy} (M : Memref sig .tc .vmem (Stk a b) e)

/-- Half a share of a slab set aside. -/
theorem slab_quarter (c : Dev nD) (s : Fin 4) (f : Buf (Elt F) (M.view.loc (c : Thread nD τ))) :
    (slab M c s fullShare f : sProp 𝕄) ⊣⊢ iprop(slab M c s (quarter 0) f ∗ slab M c s (quarter 1) f ∗ slab M c s (quarter 2) f ∗ slab M c s (quarter 3) f) :=
  (slab_quarters M c s f).trans sep_assoc

/-- A load of a whole stack of which the own slab is held at a quarter share and the three others entirely. -/
theorem load_stack_quarter {Q : α → sProp 𝕄} (c : Dev nD) {f : Buf (Elt F) (M.view.loc (c : Thread nD τ))}
    {r : LoadRect (Stk a b)} {hl : M.view.LoadsAt r} {k : (r.shape.Idx → Elt F e) → Prog (TpuEff nD τ sig (Elt F) Λ₀ .tc) α} :
    iprop(slab M c c (quarter 0) f ∗ slab M c (dn c 1) fullShare f ∗ slab M c (dn c 2) fullShare f ∗ slab M c (dn c 3) fullShare f)
      ⊢ iprop((slab M c c (quarter 0) f ∗ slab M c (dn c 1) fullShare f ∗ slab M c (dn c 2) fullShare f ∗ slab M c (dn c 3) fullShare f
              -∗ run c (k (M.view.readAt (Elt F) r f)) Q)
          -∗ run c (.op (.load M r hl) k) Q) := by
  iintro ⟨H0, H1, H2, H3⟩ Hk
  ihave H1 := (slab_quarter M c (dn c 1) f).1 $$ H1
  icases H1 with ⟨H1, H1'⟩
  ihave H2 := (slab_quarter M c (dn c 2) f).1 $$ H2
  icases H2 with ⟨H2, H2'⟩
  ihave H3 := (slab_quarter M c (dn c 3) f).1 $$ H3
  icases H3 with ⟨H3, H3'⟩
  ihave H := (Entails.of_eq (stk_dn M c (quarter 0) f).symm) $$ [H0 H1 H2 H3]
  · isplitl [H0]; · iexact H0
    isplitl [H1]; · iexact H1
    isplitl [H2] <;> iassumption
  unfold stk
  iapply (wp_load 𝒱₀ (c : Thread nD τ) none Set.univ (m := M) (View.setOn_subset_set _ _)) $$ H; iintro H
  ihave H := (Entails.of_eq (show (M.view.loc (c : Thread nD τ) ↦[M.view.set]{quarter 0} f : sProp 𝕄) = _ from stk_dn M c (quarter 0) f)) $$ H
  icases H with ⟨H0, H1, H2, H3⟩
  iapply Hk
  isplitl [H0]; · iexact H0
  isplitl [H1 H1']
  · iapply (slab_quarter M c (dn c 1) f).2; isplitl [H1] <;> iassumption
  isplitl [H2 H2']
  · iapply (slab_quarter M c (dn c 2) f).2; isplitl [H2] <;> iassumption
  iapply (slab_quarter M c (dn c 3) f).2; isplitl [H3] <;> iassumption

/-- A load of a whole stack held entirely. -/
theorem load_stack {Q : α → sProp 𝕄} (c : Dev nD) {f : Buf (Elt F) (M.view.loc (c : Thread nD τ))}
    {r : LoadRect (Stk a b)} {hl : M.view.LoadsAt r} {k : (r.shape.Idx → Elt F e) → Prog (TpuEff nD τ sig (Elt F) Λ₀ .tc) α} :
    stk M c fullShare f ⊢ iprop((stk M c fullShare f -∗ run c (k (M.view.readAt (Elt F) r f)) Q) -∗ run c (.op (.load M r hl) k) Q) := by
  unfold stk
  exact wp_load 𝒱₀ (c : Thread nD τ) none Set.univ (m := M) (View.setOn_subset_set _ _)

end Whole

/-- The load of the whole router. -/
theorem load_router {Q : α → sProp 𝕄} (c : Dev nD) {r : LoadRect S4x512x2} {hl : (rA).view.LoadsAt r} {k : (r.shape.Idx → Elt F .f32) → Prog (TpuEff nD τ sig (Elt F) Λ₀ .tc) α} :
    iprop(slab rA c c (quarter 0) (rAllAt m ρ c) ∗ recvPay m ρ 1 c 1 ∗ recvPay m ρ 1 c 2 ∗ recvPay m ρ 1 c 3)
      ⊢ iprop((slab rA c c (quarter 0) (rAllAt m ρ c) ∗ recvPay m ρ 1 c 1 ∗ recvPay m ρ 1 c 2 ∗ recvPay m ρ 1 c 3
              -∗ run c (k ((rA).view.readAt (Elt F) r (rAllAt m ρ c))) Q)
          -∗ run c (.op (.load rA r hl) k) Q) :=
  load_stack_quarter rA c

/-- then those of the two others; the whole router and the own tokens are read. -/
theorem part7 {Q : (Σ' (v227 : FVec F S512x8 .f32) (v229 : FVec F S128x512 .f32), FVec F S128x8 .f32) → sProp 𝕄} (K : GSem nD τ sig → ℕ) (c : Dev nD) :
    iprop(ctx m ρ K ∗ owing c stepsW ∗ due c 1 2 ∗ due c 1 3 ∗ recvPay m ρ 1 c 1 ∗ slab rA c c (quarter 0) (rAllAt m ρ c) ∗ held c cc0_stg0_0 (xst m ρ c))
      ⊢ iprop((owing c stepsW ∗ idle c 1 1 2 ∗ idle c 1 1 3 ∗ (slab rA c c (quarter 0) (rAllAt m ρ c) ∗ recvPay m ρ 1 c 1 ∗ recvPay m ρ 1 c 2 ∗ recvPay m ρ 1 c 3) ∗ held c cc0_stg0_0 (xst m ρ c)
              -∗ Q ⟨k0_pay7 (rAll m ρ), k0_pay8 (xst m ρ c), constant S128x8 .f32 0x00000000#32⟩)
          -∗ run c (onArgs k0_part7 c (me c)) Q) := by
  simp only [onArgs, k0_part7_eq_skeleton]; unfold k0_part7_skel
  simp only [Prog.lift, Prog.bind_op, Prog.bind_ret, Prog.pure_eq_ret]
  iintro ⟨#HC, HO, Hd2, Hd3, H1, H0, Hx⟩ Hk
  iapply (recv_step m ρ K c 1 2 (by decide) rfl stepsW (by decide) credit_r) $$ [HO Hd2]
  · isplitr; · iexact HC
    isplitl [HO] <;> iassumption
  iintro ⟨HO, Hz2, H2⟩
  iapply (recv_step m ρ K c 1 3 (by decide) rfl stepsW (by decide) credit_r) $$ [HO Hd3]
  · isplitr; · iexact HC
    isplitl [HO] <;> iassumption
  iintro ⟨HO, Hz3, H3⟩
  iapply (load_router m ρ c) $$ [H0 H1 H2 H3]
  · isplitl [H0]; · iexact H0
    isplitl [H1]; · iexact H1
    isplitl [H2] <;> iassumption
  iintro H
  rw [show (rA).view.readAt (Elt F) (Rect.unit (s := S4x512x2) ![0, 0, 0] S4x512x2.size inb_S4x512x2_S4x512x2_0_0_0).toLoadRect (rAllAt m ρ c) = rAll m ρ from Memref.readAt_unit_zero (Elt F) cc0_scratch1 zero3 _ _]
  iapply (wp_load 𝒱₀ (c : Thread nD τ) none Set.univ (m := xM) (Finset.subset_univ _)) $$ Hx; iintro Hx
  rw [show (xM).view.readAt (Elt F) (Rect.unit (s := S128x512) ![0, 0] S128x512.size inb_S128x512_S128x512_0_0).toLoadRect (xst m ρ c) = xst m ρ c from Memref.readAt_unit_zero (Elt F) cc0_stg0_0 zero2 _ _]
  iapply run_ret; iapply Hk
  isplitl [HO]; · iexact HO
  isplitl [Hz2]; · iexact Hz2
  isplitl [Hz3]; · iexact Hz3
  isplitl [H]; · iexact H
  iexact Hx

/-- The gate weights of the own tokens are computed and put into their slab, -/
theorem part8 {Q : (Σ' (v231 : IVec S128x8 32) (v269 : FVec F S128x8 .f32), BitVec 32) → sProp 𝕄} (K : GSem nD τ sig → ℕ) (c : Dev nD) :
    iprop(∃ f, slab wA c c fullShare f)
      ⊢ iprop((∀ r, slab wA c c fullShare (wAll m ρ c) -∗ Q ⟨ids, gB m ρ c, r⟩)
          -∗ run c (onArgs k0_part8 c (me c) (k0_pay7 (rAll m ρ)) (k0_pay8 (xst m ρ c)) (constant S128x8 .f32 0x00000000#32)) Q) := by
  simp only [onArgs, k0_part8_eq_skeleton]; unfold k0_part8_skel
  simp only [Prog.lift, Prog.bind_op, Prog.bind_ret, Prog.pure_eq_ret]
  iintro ⟨%f, Hw⟩ Hk
  iapply (load_slab_any wA c c (k0_off6_eq c)) $$ Hw; iintro %_ Hw
  iapply (store_slab wA c c (wAll m ρ c) (k0_off6_eq c) (funext fun j => stack_emb (wB m ρ) c j)) $$ Hw; iintro Hw
  iapply (run_ret (Q := Q) c ⟨ids, gB m ρ c, _⟩); iapply Hk; iexact Hw

/-- and sent one place on, -/
theorem part9 {Q : PUnit → sProp 𝕄} (K : GSem nD τ sig → ℕ) (c : Dev nD) (v : BitVec 32) :
    iprop(ctx m ρ K ∗ owing c stepsW ∗ (link c 2 1 ∗ sendPay m ρ 2 c 1 ∗ hole 2 (up c 1) c))
      ⊢ iprop((owing c (.put 2 2 :: .put 2 3 :: stepsC) ∗ sent c 2 1 -∗ Q ⟨⟩) -∗ run c (onArgs k0_part9 c (me c) v) Q) := by
  simp only [onArgs, k0_part9_eq_skeleton]; unfold k0_part9_skel
  simp only [Prog.lift, Prog.bind_op, Prog.bind_ret, Prog.pure_eq_ret]
  iintro ⟨#HC, HO, Hp⟩ Hk
  iapply (put_w m ρ K c 1 (by decide) (dev10_eq c) (.put 2 2 :: .put 2 3 :: stepsC) (k0_off7_eq c) rfl rfl) $$ [HO Hp]
  · isplitr; · iexact HC
    isplitl [HO] <;> iassumption
  iintro H
  iapply run_ret; iapply Hk; iexact H

/-- two and three; the own tokens are read back. -/
theorem part10 {Q : (Σ' (v339 : FVec F S128x512 .bf16) (v340 : FVec F S128x512 .f32) (v341 : FVec F S128x1024 .f32), FVec F S128x1024 .f32) → sProp 𝕄}
    (K : GSem nD τ sig → ℕ) (c : Dev nD) (w : FVec F S512x1024 .bf16) :
    iprop(ctx m ρ K ∗ owing c (.put 2 2 :: .put 2 3 :: stepsC) ∗ (link c 2 2 ∗ sendPay m ρ 2 c 2 ∗ hole 2 (up c 2) c) ∗ (link c 2 3 ∗ sendPay m ρ 2 c 3 ∗ hole 2 (up c 3) c)
        ∗ slab xA c c (quarter 0) (xAll m ρ c))
      ⊢ iprop((owing c stepsC ∗ sent c 2 2 ∗ sent c 2 3 ∗ slab xA c c (quarter 0) (xAll m ρ c)
              -∗ Q ⟨k0_pay11 (xB m ρ c), k0_pay12, k0_pay13 w (xB m ρ c), k0_pay14⟩)
          -∗ run c (onArgs k0_part10 c (me c) w) Q) := by
  simp only [onArgs, k0_part10_eq_skeleton]; unfold k0_part10_skel
  simp only [Prog.lift, Prog.bind_op, Prog.bind_ret, Prog.pure_eq_ret]
  iintro ⟨#HC, HO, Hp, Hp', Hx⟩ Hk
  iapply (put_w m ρ K c 2 (by decide) (dev11_eq c) (.put 2 3 :: stepsC) (k0_off7_eq c) rfl rfl) $$ [HO Hp]
  · isplitr; · iexact HC
    isplitl [HO] <;> iassumption
  iintro ⟨HO, Hs⟩
  iapply (put_w m ρ K c 3 (by decide) (dev12_eq c) stepsC (k0_off7_eq c) rfl rfl) $$ [HO Hp']
  · isplitr; · iexact HC
    isplitl [HO] <;> iassumption
  iintro ⟨HO, Hs'⟩
  iapply (load_slab xA c c (f := xAll m ρ c) (k0_off1_eq c) (xB m ρ c) (funext fun j => stack_emb (xB m ρ) c j)) $$ Hx; iintro Hx
  iapply run_ret; iapply Hk
  isplitl [HO]; · iexact HO
  isplitl [Hs]; · iexact Hs
  isplitl [Hs'] <;> iassumption

/-- The gate weights as they arrive are those sent. -/
theorem weights_back (s : Fin 4) : k0_pay19 (wB m ρ s) = gB m ρ s := funext fun j =>
  congrArg (gB m ρ s) (S128x8.rowMajor.injective (Fin.ext ((Shape.rowMajor_reshapeEquiv _ _).trans (Shape.rowMajor_reshapeEquiv _ j))))

/-- The own experts' results for the own tokens go to the stack to send and to the landing stack. -/
theorem part11 {Q : (Σ' (v382 : BitVec 32), BitVec 32) → sProp 𝕄} (K : GSem nD τ sig → ℕ) (c : Dev nD) :
    iprop((∃ f, slab pA c c fullShare f) ∗ (∃ f, slab cA c c fullShare f))
      ⊢ iprop((∀ r, slab pA c c fullShare (pAll m ρ c) ∗ slab cA c c fullShare (cAll m ρ c) -∗ Q r)
          -∗ run c (onArgs k0_part11 c (me c) (k0_pay4 (u1 m ρ c)) (k0_pay5 (v0 m ρ c)) (k0_pay6 (v1 m ρ c)) ids (gB m ρ c)
              (k0_pay11 (xB m ρ c)) k0_pay12 (k0_pay13 (k0_pay3 (u0 m ρ c)) (xB m ρ c)) k0_pay14) Q) := by
  have hp : k0_pay16 (me c) (k0_pay4 (u1 m ρ c)) (k0_pay5 (v0 m ρ c)) (k0_pay6 (v1 m ρ c)) ids (gB m ρ c)
      (k0_pay11 (xB m ρ c)) k0_pay12 (k0_pay13 (k0_pay3 (u0 m ρ c)) (xB m ρ c)) k0_pay14 = pB m ρ c c := by
    unfold pB; rw [weights_back]; rfl
  simp only [onArgs, k0_part11_eq_skeleton]; unfold k0_part11_skel
  simp only [Prog.lift, Prog.bind_op, Prog.bind_ret, Prog.pure_eq_ret]
  iintro ⟨⟨%f, Hp⟩, ⟨%f', Hc⟩⟩ Hk
  iapply (load_slab_any pA c c (k0_off1_eq c)) $$ Hp; iintro %_ Hp
  iapply (store_slab pA c c (pAll m ρ c) (k0_off1_eq c) ((funext fun j => stack_emb (pB m ρ c) c j).trans hp.symm)) $$ Hp; iintro Hp
  iapply (load_slab_any cA c c (k0_off1_eq c)) $$ Hc; iintro %_ Hc
  iapply (store_slab cA c c (cAll m ρ c) (k0_off1_eq c) ((funext fun j => stack_emb (fun s => pB m ρ s c) c j).trans hp.symm)) $$ Hc; iintro Hc
  iapply run_ret; iapply Hk
  isplitl [Hp] <;> iassumption

end Cert.Moe

end
-- ==== Proof.Parts2.lean ====
/-
  The second half of the kernel's body, part by part: for each peer its tokens and gate weights arrive, the own
  experts' result for them is computed and sent back; then the results for the own tokens arrive and are summed;
  last, the sends are waited for. At the end the whole body.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## Received slabs -/

/-- A load of the tokens received from the device `s`, `d` places back. -/
theorem load_tokens {Q : α → sProp 𝕄} (c : Dev nD) (d s : Fin 4) (hs : dn c d = s) {o : Fin 3 → ℕ} (ho : o = ![s.val, 0, 0])
    {inb : ∀ x, o x + S1x128x512.size x ≤ S4x128x512.size x} {hl} {k : (S1x128x512.Idx → Elt F .bf16) → Prog (TpuEff nD τ sig (Elt F) Λ₀ .tc) α} :
    recvPay m ρ 0 c d ⊢ iprop((recvPay m ρ 0 c d -∗ run c (k (xB m ρ s)) Q)
      -∗ run c (.op (.load xA (Rect.unit (s := S4x128x512) o S1x128x512.size inb).toLoadRect hl) k) Q) := by
  subst hs
  exact load_slab xA c (dn c d) (f := xAll m ρ c) ho (xB m ρ (dn c d)) (funext fun j => stack_emb (xB m ρ) (dn c d) j)

/-- A load of the gate weights received from the device `s`, `d` places back. -/
theorem load_weights {Q : α → sProp 𝕄} (c : Dev nD) (d s : Fin 4) (hs : dn c d = s) {o : Fin 3 → ℕ} (ho : o = ![s.val, 0, 0])
    {inb : ∀ x, o x + S1x128x8.size x ≤ S4x128x8.size x} {hl} {k : (S1x128x8.Idx → Elt F .f32) → Prog (TpuEff nD τ sig (Elt F) Λ₀ .tc) α} :
    recvPay m ρ 2 c d ⊢ iprop((recvPay m ρ 2 c d -∗ run c (k (wB m ρ s)) Q)
      -∗ run c (.op (.load wA (Rect.unit (s := S4x128x8) o S1x128x8.size inb).toLoadRect hl) k) Q) := by
  subst hs
  exact load_slab wA c (dn c d) (f := wAll m ρ c) ho (wB m ρ (dn c d)) (funext fun j => stack_emb (wB m ρ) (dn c d) j)

/-- The own experts' result for the device `d` places on, put into the slab to send. -/
theorem store_result {Q : α → sProp 𝕄} (c : Dev nD) (d : Fin 4) {o : Fin 3 → ℕ} (ho : o = ![(up c d).val, 0, 0])
    {inb : ∀ x, o x + S1x128x512.size x ≤ S4x128x512.size x} {w : S1x128x512.Idx → Elt F .bf16} (hw : w = pB m ρ c (up c d))
    {f : Buf (Elt F) (pA.view.loc (c : Thread nD τ))} {hx hm} {k : PUnit → Prog (TpuEff nD τ sig (Elt F) Λ₀ .tc) α} :
    slab pA c (up c d) fullShare f ⊢ iprop((sendPay m ρ 3 c d -∗ run c (k ⟨⟩) Q)
      -∗ run c (.op (.store pA (Rect.unit (s := S4x128x512) o S1x128x512.size inb) w Finset.univ hx hm) k) Q) :=
  store_slab pA c (up c d) (pAll m ρ c) ho ((funext fun j => stack_emb (pB m ρ c) (up c d) j).trans hw.symm)

/-! ## The tokens of the device one place back -/

theorem part12 {Q : (Σ' (v392 : BitVec 32) (v403 : FVec F S128x512 .bf16) (v414 : FVec F S128x8 .f32), F .f32) → sProp 𝕄} (K : GSem nD τ sig → ℕ) (c : Dev nD) (v v' : BitVec 32) :
    iprop(ctx m ρ K ∗ owing c stepsC ∗ due c 0 1 ∗ due c 2 1)
      ⊢ iprop((∀ r, owing c stepsC ∗ idle c 0 1 1 ∗ recvPay m ρ 0 c 1 ∗ idle c 2 1 1 ∗ recvPay m ρ 2 c 1
              -∗ Q ⟨r, k0_pay18 (xB m ρ (up c 3)), k0_pay19 (wB m ρ (up c 3)), Scalar.ofBits .f32 0x00000000#32⟩)
          -∗ run c (onArgs k0_part12 c (me c) v v') Q) := by
  simp only [onArgs, k0_part12_eq_skeleton]; unfold k0_part12_skel
  simp only [Prog.lift, Prog.bind_op, Prog.bind_ret, Prog.pure_eq_ret]
  iintro ⟨#HC, HO, Hd, Hd'⟩ Hk
  iapply (recv_step m ρ K c 0 1 (by decide) rfl stepsC (by decide) credit_x) $$ [HO Hd]
  · isplitr; · iexact HC
    isplitl [HO] <;> iassumption
  iintro ⟨HO, Hz, Hx⟩
  iapply (load_tokens m ρ c 1 (up c 3) (dn_eq_up c 1) (off9_1 c)) $$ Hx; iintro Hx
  iapply (recv_step m ρ K c 2 1 (by decide) rfl stepsC (by decide) credit_w) $$ [HO Hd']
  · isplitr; · iexact HC
    isplitl [HO] <;> iassumption
  iintro ⟨HO, Hz', Hw⟩
  iapply (load_weights m ρ c 1 (up c 3) (dn_eq_up c 1) (off11_1 c)) $$ Hw; iintro Hw
  iapply run_ret; iapply Hk
  isplitl [HO]; · iexact HO
  isplitl [Hz]; · iexact Hz
  isplitl [Hx]; · iexact Hx
  isplitl [Hz'] <;> iassumption

theorem part13 {Q : (Σ' (v453 : BitVec 32), BitVec 32) → sProp 𝕄} (c : Dev nD) (v : BitVec 32) :
    iprop(∃ f, slab pA c (up c 3) fullShare f)
      ⊢ iprop((∀ r, sendPay m ρ 3 c 3 -∗ Q r)
          -∗ run c (onArgs k0_part13 c (me c) (k0_pay3 (u0 m ρ c)) (k0_pay4 (u1 m ρ c)) (k0_pay5 (v0 m ρ c)) (k0_pay6 (v1 m ρ c)) ids v
              (k0_pay18 (xB m ρ (up c 3))) (k0_pay19 (wB m ρ (up c 3))) (Scalar.ofBits .f32 0x00000000#32)) Q) := by
  simp only [onArgs, k0_part13_eq_skeleton]; unfold k0_part13_skel
  simp only [Prog.lift, Prog.bind_op, Prog.bind_ret, Prog.pure_eq_ret]
  iintro ⟨%f, Hp⟩ Hk
  iapply (load_slab_any pA c (up c 3) (off9_1 c)) $$ Hp; iintro %_ Hp
  iapply (store_result m ρ c 3 (off9_1 c) rfl) $$ Hp; iintro Hp
  iapply run_ret; iapply Hk; iexact Hp

/-! ## The tokens of the device three places back -/

theorem part14 {Q : (Σ' (v473 : BitVec 32), FVec F S128x512 .bf16) → sProp 𝕄} (K : GSem nD τ sig → ℕ) (c : Dev nD) (v v' : BitVec 32) :
    iprop(ctx m ρ K ∗ owing c stepsC ∗ (link c 3 3 ∗ sendPay m ρ 3 c 3 ∗ hole 3 (up c 3) c) ∗ due c 0 3)
      ⊢ iprop((∀ r, owing c [.put 3 1, .put 3 2] ∗ sent c 3 3 ∗ idle c 0 1 3 ∗ recvPay m ρ 0 c 3 -∗ Q ⟨r, k0_pay21 (xB m ρ (up c 1))⟩)
          -∗ run c (onArgs k0_part14 c (me c) v v') Q) := by
  simp only [onArgs, k0_part14_eq_skeleton]; unfold k0_part14_skel
  simp only [Prog.lift, Prog.bind_op, Prog.bind_ret, Prog.pure_eq_ret]
  iintro ⟨#HC, HO, Hp, Hd⟩ Hk
  iapply (put_c m ρ K c 3 (by decide) (dev13_eq c) [.put 3 1, .put 3 2] (off8_1 c) (k0_off3_eq c) rfl rfl) $$ [HO Hp]
  · isplitr; · iexact HC
    isplitl [HO] <;> iassumption
  iintro ⟨HO, Hs⟩
  iapply (recv_step m ρ K c 0 3 (by decide) rfl [.put 3 1, .put 3 2] (by decide) credit_x) $$ [HO Hd]
  · isplitr; · iexact HC
    isplitl [HO] <;> iassumption
  iintro ⟨HO, Hz, Hx⟩
  iapply (load_tokens m ρ c 3 (up c 1) (dn_eq_up c 3) (off9_3 c)) $$ Hx; iintro Hx
  iapply run_ret; iapply Hk
  isplitl [HO]; · iexact HO
  isplitl [Hs]; · iexact Hs
  isplitl [Hz] <;> iassumption

theorem part15 {Q : (Σ' (v512 : FVec F S128x512 .f32) (v517 : FVec F S128x512 .f32), FVec F S128 .f32) → sProp 𝕄} (K : GSem nD τ sig → ℕ) (c : Dev nD)
    (a1 a2 : FVec F S512x1024 .bf16) (b1 b2 : FVec F S1024x512 .bf16) (v : BitVec 32) (x : FVec F S128x512 .bf16) :
    iprop(ctx m ρ K ∗ owing c [.put 3 1, .put 3 2] ∗ due c 2 3)
      ⊢ iprop((owing c [.put 3 1, .put 3 2] ∗ idle c 2 1 3 ∗ recvPay m ρ 2 c 3
              -∗ Q ⟨k0_pay23 (me c) a1 b1 ids x (wB m ρ (up c 1)), k0_pay24 a2 b2 x, k0_pay25 (me c) ids (wB m ρ (up c 1))⟩)
          -∗ run c (onArgs k0_part15 c (me c) a1 a2 b1 b2 ids v x) Q) := by
  simp only [onArgs, k0_part15_eq_skeleton]; unfold k0_part15_skel
  simp only [Prog.lift, Prog.bind_op, Prog.bind_ret, Prog.pure_eq_ret]
  iintro ⟨#HC, HO, Hd⟩ Hk
  iapply (recv_step m ρ K c 2 3 (by decide) rfl [.put 3 1, .put 3 2] (by decide) credit_w) $$ [HO Hd]
  · isplitr; · iexact HC
    isplitl [HO] <;> iassumption
  iintro ⟨HO, Hz, Hw⟩
  iapply (load_weights m ρ c 3 (up c 1) (dn_eq_up c 3) (off11_3 c)) $$ Hw; iintro Hw
  iapply run_ret; iapply Hk
  isplitl [HO]; · iexact HO
  isplitl [Hz] <;> iassumption

theorem part16 {Q : BitVec 32 → sProp 𝕄} (K : GSem nD τ sig → ℕ) (c : Dev nD) (v : BitVec 32) :
    iprop(ctx m ρ K ∗ owing c [.put 3 1, .put 3 2] ∗ (∃ f, slab pA c (up c 1) fullShare f) ∗ link c 3 1 ∗ hole 3 (up c 1) c)
      ⊢ iprop((∀ r, owing c [.put 3 2] ∗ sent c 3 1 -∗ Q r)
          -∗ run c (onArgs k0_part16 c (me c) v
              (k0_pay23 (me c) (k0_pay3 (u0 m ρ c)) (k0_pay5 (v0 m ρ c)) ids (k0_pay21 (xB m ρ (up c 1))) (wB m ρ (up c 1)))
              (k0_pay24 (k0_pay4 (u1 m ρ c)) (k0_pay6 (v1 m ρ c)) (k0_pay21 (xB m ρ (up c 1)))) (k0_pay25 (me c) ids (wB m ρ (up c 1)))) Q) := by
  simp only [onArgs, k0_part16_eq_skeleton]; unfold k0_part16_skel
  simp only [Prog.lift, Prog.bind_op, Prog.bind_ret, Prog.pure_eq_ret]
  iintro ⟨#HC, HO, ⟨%f, Hp⟩, Hl, Hh⟩ Hk
  iapply (load_slab_any pA c (up c 1) (off9_3 c)) $$ Hp; iintro %_ Hp
  iapply (store_result m ρ c 1 (off9_3 c) rfl) $$ Hp; iintro Hp
  iapply (put_c m ρ K c 1 (by decide) (dev14_eq c) [.put 3 2] (off8_3 c) (k0_off3_eq c) rfl rfl) $$ [HO Hl Hp Hh]
  · isplitr; · iexact HC
    isplitl [HO]; · iexact HO
    isplitl [Hl]; · iexact Hl
    isplitl [Hp] <;> iassumption
  iintro H
  iapply run_ret; iapply Hk; iexact H

/-! ## The tokens of the device two places back -/

theorem part17 {Q : (Σ' (v576 : FVec F S128x8 .f32) (v593 : FVec F S128x512 .f32), FVec F S128x1024 .f32) → sProp 𝕄} (K : GSem nD τ sig → ℕ) (c : Dev nD)
    (a1 a2 : FVec F S512x1024 .bf16) (b1 : FVec F S1024x512 .bf16) (v : BitVec 32) :
    iprop(ctx m ρ K ∗ owing c [.put 3 2] ∗ due c 0 2 ∗ due c 2 2)
      ⊢ iprop((owing c [.put 3 2] ∗ idle c 0 1 2 ∗ recvPay m ρ 0 c 2 ∗ idle c 2 1 2 ∗ recvPay m ρ 2 c 2
              -∗ Q ⟨k0_pay28 (wB m ρ (up c 2)), k0_pay29 (me c) a1 b1 ids (xB m ρ (up c 2)) (wB m ρ (up c 2)), k0_pay30 a2 (xB m ρ (up c 2))⟩)
          -∗ run c (onArgs k0_part17 c (me c) a1 a2 b1 ids v) Q) := by
  simp only [onArgs, k0_part17_eq_skeleton]; unfold k0_part17_skel
  simp only [Prog.lift, Prog.bind_op, Prog.bind_ret, Prog.pure_eq_ret]
  iintro ⟨#HC, HO, Hd, Hd'⟩ Hk
  iapply (recv_step m ρ K c 0 2 (by decide) rfl [.put 3 2] (by decide) credit_x) $$ [HO Hd]
  · isplitr; · iexact HC
    isplitl [HO] <;> iassumption
  iintro ⟨HO, Hz, Hx⟩
  iapply (load_tokens m ρ c 2 (up c 2) (dn_eq_up c 2) (off9_2 c)) $$ Hx; iintro Hx
  iapply (recv_step m ρ K c 2 2 (by decide) rfl [.put 3 2] (by decide) credit_w) $$ [HO Hd']
  · isplitr; · iexact HC
    isplitl [HO] <;> iassumption
  iintro ⟨HO, Hz', Hw⟩
  iapply (load_weights m ρ c 2 (up c 2) (dn_eq_up c 2) (off11_2 c)) $$ Hw; iintro Hw
  iapply run_ret; iapply Hk
  isplitl [HO]; · iexact HO
  isplitl [Hz]; · iexact Hz
  isplitl [Hx]; · iexact Hx
  isplitl [Hz'] <;> iassumption

theorem part18 {Q : (Σ' (v627 : BitVec 32) (v628 : BitVec 32) (v629 : BitVec 1), BitVec 1) → sProp 𝕄} (K : GSem nD τ sig → ℕ) (c : Dev nD) (v : BitVec 32) :
    iprop(ctx m ρ K ∗ owing c [.put 3 2] ∗ (∃ f, slab pA c (up c 2) fullShare f) ∗ link c 3 2 ∗ hole 3 (up c 2) c)
      ⊢ iprop((∀ r, owing c [] ∗ sent c 3 2 -∗ Q r)
          -∗ run c (onArgs k0_part18 c (me c) (k0_pay6 (v1 m ρ c)) ids v (k0_pay28 (wB m ρ (up c 2)))
              (k0_pay29 (me c) (k0_pay3 (u0 m ρ c)) (k0_pay5 (v0 m ρ c)) ids (xB m ρ (up c 2)) (wB m ρ (up c 2))) (k0_pay30 (k0_pay4 (u1 m ρ c)) (xB m ρ (up c 2)))) Q) := by
  simp only [onArgs, k0_part18_eq_skeleton]; unfold k0_part18_skel
  simp only [Prog.lift, Prog.bind_op, Prog.bind_ret, Prog.pure_eq_ret]
  iintro ⟨#HC, HO, ⟨%f, Hp⟩, Hl, Hh⟩ Hk
  iapply (load_slab_any pA c (up c 2) (off9_2 c)) $$ Hp; iintro %_ Hp
  iapply (store_result m ρ c 2 (off9_2 c) rfl) $$ Hp; iintro Hp
  iapply (put_c m ρ K c 2 (by decide) (dev15_eq c) [] (off8_2 c) (k0_off3_eq c) rfl rfl) $$ [HO Hl Hp Hh]
  · isplitr; · iexact HC
    isplitl [HO]; · iexact HO
    isplitl [Hl]; · iexact Hl
    isplitl [Hp] <;> iassumption
  iintro H
  iapply run_ret; iapply Hk; iexact H

/-! ## The results for the own tokens -/

theorem part19 {Q : BitVec 32 → sProp 𝕄} (K : GSem nD τ sig → ℕ) (c : Dev nD) (v v' : BitVec 32) (b b' : BitVec 1) :
    iprop(ctx m ρ K ∗ owing c [] ∗ due c 3 1 ∗ due c 3 2)
      ⊢ iprop((∀ r, owing c [] ∗ (idle c 3 1 1 ∗ recvPay m ρ 3 c 1) ∗ (idle c 3 1 2 ∗ recvPay m ρ 3 c 2) -∗ Q r)
          -∗ run c (onArgs k0_part19 c (me c) v v' b b') Q) := by
  simp only [onArgs, k0_part19_eq_skeleton]; unfold k0_part19_skel
  simp only [Prog.lift, Prog.bind_op, Prog.bind_ret, Prog.pure_eq_ret]
  iintro ⟨#HC, HO, Hd, Hd'⟩ Hk
  iapply (recv_step m ρ K c 3 1 (by decide) rfl [] (by decide) credit_c) $$ [HO Hd]
  · isplitr; · iexact HC
    isplitl [HO] <;> iassumption
  iintro ⟨HO, H⟩
  iapply (recv_step m ρ K c 3 2 (by decide) rfl [] (by decide) credit_c) $$ [HO Hd']
  · isplitr; · iexact HC
    isplitl [HO] <;> iassumption
  iintro ⟨HO, H'⟩
  iapply run_ret; iapply Hk
  isplitl [HO]; · iexact HO
  isplitl [H] <;> iassumption

/-- The four results for the own tokens, together. -/
theorem results_all (c : Dev nD) : iprop(slab cA c c fullShare (cAll m ρ c) ∗ recvPay m ρ 3 c 1 ∗ recvPay m ρ 3 c 2 ∗ recvPay m ρ 3 c 3) = stk cA c fullShare (cAll m ρ c) :=
  (stk_dn cA c fullShare (cAll m ρ c)).symm

/-- The load of the four results for the own tokens. -/
theorem load_results {Q : α → sProp 𝕄} (c : Dev nD) {inb : ∀ x, (![0, 0, 0] : Fin 3 → ℕ) x + S4x128x512.size x ≤ S4x128x512.size x} {hl}
    {k : (S4x128x512.Idx → Elt F .bf16) → Prog (TpuEff nD τ sig (Elt F) Λ₀ .tc) α} :
    stk cA c fullShare (cAll m ρ c) ⊢ iprop((stk cA c fullShare (cAll m ρ c) -∗ run c (k (cAll m ρ c)) Q)
      -∗ run c (.op (.load cA (Rect.unit (s := S4x128x512) ![0, 0, 0] S4x128x512.size inb).toLoadRect hl) k) Q) := by
  have h := load_stack (Q := Q) cA c (f := cAll m ρ c) (r := (Rect.unit (s := S4x128x512) ![0, 0, 0] S4x128x512.size inb).toLoadRect) (hl := hl) (k := k)
  rwa [show (cA).view.readAt (Elt F) (Rect.unit (s := S4x128x512) ![0, 0, 0] S4x128x512.size inb).toLoadRect (cAll m ρ c) = cAll m ρ c from
    Memref.readAt_unit_zero (Elt F) cc0_scratch4 zero3 inb (cAll m ρ c)] at h

/-- The store of the result. -/
theorem store_out {Q : α → sProp 𝕄} (c : Dev nD) {f w : cc0_stg4_0.ty.Contents (Elt F)} {inb : ∀ x, (![0, 0] : Fin 2 → ℕ) x + S128x512.size x ≤ S128x512.size x} {hx hm}
    {k : PUnit → Prog (TpuEff nD τ sig (Elt F) Λ₀ .tc) α} :
    held c cc0_stg4_0 f ⊢ iprop((held c cc0_stg4_0 w -∗ run c (k ⟨⟩) Q)
      -∗ run c (.op (.store oM (Rect.unit (s := S128x512) ![0, 0] S128x512.size inb) w Finset.univ hx hm) k) Q) := by
  have h : held c cc0_stg4_0 f ⊢ iprop((held c cc0_stg4_0 ((oM.access (Rect.unit (s := S128x512) ![0, 0] S128x512.size inb)).write (Elt F) f w Finset.univ) -∗ run c (k ⟨⟩) Q)
      -∗ run c (.op (.store oM (Rect.unit (s := S128x512) ![0, 0] S128x512.size inb) w Finset.univ hx hm) k) Q) :=
    wp_store 𝒱₀ (c : Thread nD τ) none Set.univ (m := oM) (r := Rect.unit (s := S128x512) ![0, 0] S128x512.size inb) (Mk := Finset.univ) (Finset.subset_univ _)
  rwa [show (oM.access (Rect.unit (s := S128x512) ![0, 0] S128x512.size inb)).write (Elt F) f w Finset.univ = w from
    Memref.write_access_unit_zero_univ (Elt F) cc0_stg4_0 zero2 inb f w] at h

theorem part20 {Q : PUnit → sProp 𝕄} (K : GSem nD τ sig → ℕ) (c : Dev nD) (v : BitVec 32) :
    iprop(ctx m ρ K ∗ owing c [] ∗ due c 3 3 ∗ slab cA c c fullShare (cAll m ρ c) ∗ recvPay m ρ 3 c 1 ∗ recvPay m ρ 3 c 2 ∗ (∃ f, held c cc0_stg4_0 f))
      ⊢ iprop((owing c [] ∗ idle c 3 1 3 ∗ stk cA c fullShare (cAll m ρ c) ∗ held c cc0_stg4_0 (outAt m ρ c) -∗ Q ⟨⟩)
          -∗ run c (onArgs k0_part20 c (me c) v) Q) := by
  simp only [onArgs, k0_part20_eq_skeleton]; unfold k0_part20_skel
  simp only [Prog.lift, Prog.bind_op, Prog.bind_ret, Prog.pure_eq_ret]
  iintro ⟨#HC, HO, Hd, H0, H1, H2, ⟨%f, Ho⟩⟩ Hk
  iapply (recv_step m ρ K c 3 3 (by decide) rfl [] (by decide) credit_c) $$ [HO Hd]
  · isplitr; · iexact HC
    isplitl [HO] <;> iassumption
  iintro ⟨HO, Hz, H3⟩
  ihave H := (Entails.of_eq (results_all m ρ c)) $$ [H0 H1 H2 H3]
  · isplitl [H0]; · iexact H0
    isplitl [H1]; · iexact H1
    isplitl [H2] <;> iassumption
  iapply (load_results m ρ c) $$ H; iintro H
  iapply (wp_load 𝒱₀ (c : Thread nD τ) none Set.univ (m := oM) (Finset.subset_univ _)) $$ Ho; iintro Ho
  iapply (store_out c) $$ Ho; iintro Ho
  iapply run_ret; iapply Hk
  isplitl [HO]; · iexact HO
  isplitl [Hz]; · iexact Hz
  isplitl [H]; · iexact H
  iexact Ho

/-! ## The sends waited for -/

theorem part21 {Q : PUnit → sProp 𝕄} (K : GSem nD τ sig → ℕ) (c : Dev nD) :
    iprop(ctx m ρ K ∗ owing c [] ∗ sent c 0 1 ∗ sent c 1 1 ∗ sent c 0 2 ∗ sent c 1 2)
      ⊢ iprop((owing c [] ∗ (idle c 0 0 1 ∗ sendPay m ρ 0 c 1) ∗ (idle c 1 0 1 ∗ sendPay m ρ 1 c 1) ∗ (idle c 0 0 2 ∗ sendPay m ρ 0 c 2) ∗ (idle c 1 0 2 ∗ sendPay m ρ 1 c 2) -∗ Q ⟨⟩)
          -∗ run c (onArgs k0_part21 c) Q) := by
  simp only [onArgs, k0_part21_eq_skeleton]; unfold k0_part21_skel
  simp only [Prog.lift, Prog.bind_op, Prog.bind_ret, Prog.pure_eq_ret]
  iintro ⟨#HC, HO, H1, H2, H3, H4⟩ Hk
  iapply (sent_step m ρ K c 0 1 (by decide) rfl credit_x) $$ [HO H1]
  · isplitr; · iexact HC
    isplitl [HO] <;> iassumption
  iintro ⟨HO, H1⟩
  iapply (sent_step m ρ K c 1 1 (by decide) rfl credit_r) $$ [HO H2]
  · isplitr; · iexact HC
    isplitl [HO] <;> iassumption
  iintro ⟨HO, H2⟩
  iapply (sent_step m ρ K c 0 2 (by decide) rfl credit_x) $$ [HO H3]
  · isplitr; · iexact HC
    isplitl [HO] <;> iassumption
  iintro ⟨HO, H3⟩
  iapply (sent_step m ρ K c 1 2 (by decide) rfl credit_r) $$ [HO H4]
  · isplitr; · iexact HC
    isplitl [HO] <;> iassumption
  iintro ⟨HO, H4⟩
  iapply run_ret; iapply Hk
  isplitl [HO]; · iexact HO
  isplitl [H1]; · iexact H1
  isplitl [H2]; · iexact H2
  isplitl [H3] <;> iassumption

theorem part22 {Q : PUnit → sProp 𝕄} (K : GSem nD τ sig → ℕ) (c : Dev nD) :
    iprop(ctx m ρ K ∗ owing c [] ∗ sent c 0 3 ∗ sent c 1 3 ∗ sent c 2 1 ∗ sent c 2 2)
      ⊢ iprop((owing c [] ∗ (idle c 0 0 3 ∗ sendPay m ρ 0 c 3) ∗ (idle c 1 0 3 ∗ sendPay m ρ 1 c 3) ∗ (idle c 2 0 1 ∗ sendPay m ρ 2 c 1) ∗ (idle c 2 0 2 ∗ sendPay m ρ 2 c 2) -∗ Q ⟨⟩)
          -∗ run c (onArgs k0_part22 c) Q) := by
  simp only [onArgs, k0_part22_eq_skeleton]; unfold k0_part22_skel
  simp only [Prog.lift, Prog.bind_op, Prog.bind_ret, Prog.pure_eq_ret]
  iintro ⟨#HC, HO, H1, H2, H3, H4⟩ Hk
  iapply (sent_step m ρ K c 0 3 (by decide) rfl credit_x) $$ [HO H1]
  · isplitr; · iexact HC
    isplitl [HO] <;> iassumption
  iintro ⟨HO, H1⟩
  iapply (sent_step m ρ K c 1 3 (by decide) rfl credit_r) $$ [HO H2]
  · isplitr; · iexact HC
    isplitl [HO] <;> iassumption
  iintro ⟨HO, H2⟩
  iapply (sent_step m ρ K c 2 1 (by decide) rfl credit_w) $$ [HO H3]
  · isplitr; · iexact HC
    isplitl [HO] <;> iassumption
  iintro ⟨HO, H3⟩
  iapply (sent_step m ρ K c 2 2 (by decide) rfl credit_w) $$ [HO H4]
  · isplitr; · iexact HC
    isplitl [HO] <;> iassumption
  iintro ⟨HO, H4⟩
  iapply run_ret; iapply Hk
  isplitl [HO]; · iexact HO
  isplitl [H1]; · iexact H1
  isplitl [H2]; · iexact H2
  isplitl [H3] <;> iassumption

end Cert.Moe

end
-- ==== Proof.Body.lean ====
/-
  The whole body: what a device starts from, what it ends with, and the parts put together.
-/
module

public import proofs.«01_k».proof.Proof.Parts2

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {α : Type}

theorem run_bind {β : Type} {Q : α → sProp 𝕄} (c : Dev nD) (p : Prog (TpuEff nD τ sig (Elt F) Λ₀ .tc) β) (k : β → Prog (TpuEff nD τ sig (Elt F) Λ₀ .tc) α) :
    run c p (fun a => run c (k a) Q) ⊢ run c (p >>= k) Q := by
  unfold run
  rw [wp_bind]

/-! ## What a device starts from and ends with -/

omit [FloatOps F] in
def links (c : Dev nD) (k : Fin 4) : sProp 𝕄 := iprop(link c k 1 ∗ link c k 2 ∗ link c k 3)
omit [FloatOps F] in
def dues (c : Dev nD) (k : Fin 4) : sProp 𝕄 := iprop(due c k 1 ∗ due c k 2 ∗ due c k 3)
omit [FloatOps F] in
/-- The semaphores of one kind and direction that are used, done with. -/
def quiet (c : Dev nD) (k : Fin 4) (dir : Fin 2) : sProp 𝕄 := iprop(idle c k dir 1 ∗ idle c k dir 2 ∗ idle c k dir 3)

omit [FloatOps F] in
/-- The protocol's part of a start: whom to signal, what to expect, the copies to make and to receive. -/
def tickets (c : Dev nD) : sProp 𝕄 :=
  iprop((ring c 1 ∗ ring c 2 ∗ ring c 3) ∗ expected c ∗ (links c 0 ∗ links c 1 ∗ links c 2 ∗ links c 3) ∗ (dues c 0 ∗ dues c 1 ∗ dues c 2 ∗ dues c 3))

omit [FloatOps F] in
/-- The buffers' part: the slabs to lend to the other devices, the own slabs, the four slabs of results to send. -/
def slabsIn (c : Dev nD) : sProp 𝕄 :=
  iprop((landing c (up c 1) ∗ landing c (up c 2) ∗ landing c (up c 3))
    ∗ (∃ f, slab xA c c fullShare f) ∗ (∃ f, slab rA c c fullShare f) ∗ (∃ f, slab wA c c fullShare f) ∗ (∃ f, slab cA c c fullShare f)
    ∗ (∃ f, slab pA c c fullShare f) ∗ (∃ f, slab pA c (up c 1) fullShare f) ∗ (∃ f, slab pA c (up c 2) fullShare f) ∗ (∃ f, slab pA c (up c 3) fullShare f))

/-- The staged blocks. -/
def inputs (c : Dev nD) : sProp 𝕄 :=
  iprop(held c cc0_stg0_0 (xst m ρ c) ∗ held c cc0_stg1_0 (rst m ρ c) ∗ held c cc0_stg2_0 (ust m ρ c) ∗ held c cc0_stg3_0 (vst m ρ c))

omit [FloatOps F] in
def allQuiet (c : Dev nD) : sProp 𝕄 :=
  iprop((quiet c 0 0 ∗ quiet c 0 1) ∗ (quiet c 1 0 ∗ quiet c 1 1) ∗ (quiet c 2 0 ∗ quiet c 2 1) ∗ (quiet c 3 0 ∗ quiet c 3 1))

/-- The five stacks at the end. -/
def stacksOut (c : Dev nD) : sProp 𝕄 :=
  iprop(stk xA c fullShare (xAll m ρ c) ∗ stk rA c fullShare (rAllAt m ρ c) ∗ stk wA c fullShare (wAll m ρ c)
    ∗ stk pA c fullShare (pAll m ρ c) ∗ stk cA c fullShare (cAll m ρ c))

/-! ## Slabs shared out and put together again -/

theorem share_x (c : Dev nD) : slab xA c c fullShare (xAll m ρ c) ⊣⊢ iprop(slab xA c c (quarter 0) (xAll m ρ c) ∗ sendPay m ρ 0 c 1 ∗ sendPay m ρ 0 c 2 ∗ sendPay m ρ 0 c 3) :=
  slab_quarter xA c c (xAll m ρ c)
theorem share_r (c : Dev nD) : slab rA c c fullShare (rAllAt m ρ c) ⊣⊢ iprop(slab rA c c (quarter 0) (rAllAt m ρ c) ∗ sendPay m ρ 1 c 1 ∗ sendPay m ρ 1 c 2 ∗ sendPay m ρ 1 c 3) :=
  slab_quarter rA c c (rAllAt m ρ c)
theorem share_w (c : Dev nD) : slab wA c c fullShare (wAll m ρ c) ⊣⊢ iprop(slab wA c c (quarter 0) (wAll m ρ c) ∗ sendPay m ρ 2 c 1 ∗ sendPay m ρ 2 c 2 ∗ sendPay m ρ 2 c 3) :=
  slab_quarter wA c c (wAll m ρ c)

theorem whole_x (c : Dev nD) : iprop(slab xA c c fullShare (xAll m ρ c) ∗ recvPay m ρ 0 c 1 ∗ recvPay m ρ 0 c 2 ∗ recvPay m ρ 0 c 3) ⊢ stk xA c fullShare (xAll m ρ c) :=
  Entails.of_eq (stk_dn xA c fullShare (xAll m ρ c)).symm
theorem whole_r (c : Dev nD) : iprop(slab rA c c fullShare (rAllAt m ρ c) ∗ recvPay m ρ 1 c 1 ∗ recvPay m ρ 1 c 2 ∗ recvPay m ρ 1 c 3) ⊢ stk rA c fullShare (rAllAt m ρ c) :=
  Entails.of_eq (stk_dn rA c fullShare (rAllAt m ρ c)).symm
theorem whole_w (c : Dev nD) : iprop(slab wA c c fullShare (wAll m ρ c) ∗ recvPay m ρ 2 c 1 ∗ recvPay m ρ 2 c 2 ∗ recvPay m ρ 2 c 3) ⊢ stk wA c fullShare (wAll m ρ c) :=
  Entails.of_eq (stk_dn wA c fullShare (wAll m ρ c)).symm

section Stack
variable {a b : ℕ} {e : EltTy} (M : Memref sig .tc .vmem (Stk a b) e)
omit [FloatOps F] in
/-- A stack by the devices after `c`. -/
theorem stk_up (c : Dev nD) (q : PosShare TreeShare) (f : Buf (Elt F) (M.view.loc (c : Thread nD τ))) :
    (stk M c q f : sProp 𝕄) = iprop(slab M c c q f ∗ slab M c (up c 3) q f ∗ slab M c (up c 2) q f ∗ slab M c (up c 1) q f) := by
  rw [stk_dn, dn_eq_up, dn_eq_up, dn_eq_up]; rfl
end Stack

theorem whole_p (c : Dev nD) : iprop(slab pA c c fullShare (pAll m ρ c) ∗ sendPay m ρ 3 c 3 ∗ sendPay m ρ 3 c 2 ∗ sendPay m ρ 3 c 1) ⊢ stk pA c fullShare (pAll m ρ c) :=
  Entails.of_eq (stk_up pA c fullShare (pAll m ρ c)).symm

omit [FloatOps F] in
theorem quiet_intro (c : Dev nD) (k : Fin 4) (dir : Fin 2) : iprop(idle c k dir 1 ∗ idle c k dir 2 ∗ idle c k dir 3) ⊢ (quiet c k dir : sProp 𝕄) := Entails.refl _

omit [FloatOps F] in
theorem landing_open (c : Dev nD) (s : Fin 4) : landing (F := F) c s ⊢ iprop(hole 0 c s ∗ hole 1 c s ∗ hole 2 c s ∗ hole 3 c s) := Entails.refl _

/-! ## The body -/

theorem body_run {Q : PUnit → sProp 𝕄} (K : GSem nD τ sig → ℕ) (c : Dev nD) :
    iprop(ctx m ρ K ∗ owing c steps ∗ tickets c ∗ slabsIn c ∗ inputs m ρ c ∗ (∃ f, held c cc0_stg4_0 f))
      ⊢ iprop((owing c [] ∗ semVal (bar c) 0 ∗ allQuiet c ∗ stacksOut m ρ c ∗ inputs m ρ c ∗ held c cc0_stg4_0 (outAt m ρ c) -∗ Q ⟨⟩)
          -∗ run c (onArgs cc0_body) Q) := by
  simp only [onArgs, cc0_body_eq_skeleton]; unfold cc0_body_skel
  rw [k0_part23_eq_skeleton]; unfold k0_part23_skel
  unfold tickets slabsIn inputs links dues
  iintro ⟨#HC, HO, ⟨⟨Hr1, Hr2, Hr3⟩, He, ⟨⟨Lx1, Lx2, Lx3⟩, ⟨Lr1, Lr2, Lr3⟩, ⟨Lw1, Lw2, Lw3⟩, ⟨Lc1, Lc2, Lc3⟩⟩, ⟨⟨Dx1, Dx2, Dx3⟩, ⟨Dr1, Dr2, Dr3⟩, ⟨Dw1, Dw2, Dw3⟩, ⟨Dc1, Dc2, Dc3⟩⟩⟩,
    ⟨⟨Hl1, Hl2, Hl3⟩, Hx, Hr, Hw, Hc, Hp, Hp1, Hp2, Hp3⟩, ⟨Sx, Sr, Su, Sv⟩, So⟩ Hk
  iapply run_bind
  iapply run_bind
  iapply (part1 m ρ K c) $$ [HO Hr1 Hl1 Hr2 Hl2]
  · isplitr; · iexact HC
    isplitl [HO]; · iexact HO
    isplitl [Hr1 Hl1]
    · isplitl [Hr1] <;> iassumption
    isplitl [Hr2] <;> iassumption
  iintro %_ %_ %_ HO
  iapply run_bind
  iapply (part2 m ρ K c) $$ [HO Hr3 Hl3 He Sx Sr Hx Hr]
  · isplitr; · iexact HC
    isplitl [HO]; · iexact HO
    isplitl [Hr3 Hl3]
    · isplitl [Hr3] <;> iassumption
    isplitl [He]; · iexact He
    isplitl [Sx]; · iexact Sx
    isplitl [Sr]; · iexact Sr
    isplitl [Hx] <;> iassumption
  iintro %_ ⟨HO, Zb, H1, H2, H3, Sx, Sr, Hx, Hr⟩
  ihave H1 := (landing_open (up c 1) c) $$ H1
  icases H1 with ⟨Ox1, Or1, Ow1, Oc1⟩
  ihave H2 := (landing_open (up c 2) c) $$ H2
  icases H2 with ⟨Ox2, Or2, Ow2, Oc2⟩
  ihave H3 := (landing_open (up c 3) c) $$ H3
  icases H3 with ⟨Ox3, Or3, Ow3, Oc3⟩
  ihave Hx := (share_x m ρ c).1 $$ Hx
  icases Hx with ⟨Hx, Px1, Px2, Px3⟩
  ihave Hr := (share_r m ρ c).1 $$ Hr
  icases Hr with ⟨Hr, Pr1, Pr2, Pr3⟩
  iapply run_bind
  iapply (part3 m ρ K c) $$ [HO Lx1 Px1 Ox1 Lr1 Pr1 Or1]
  · isplitr; · iexact HC
    isplitl [HO]; · iexact HO
    isplitl [Lx1 Px1 Ox1]
    · isplitl [Lx1]; · iexact Lx1
      isplitl [Px1] <;> iassumption
    isplitl [Lr1]; · iexact Lr1
    isplitl [Pr1] <;> iassumption
  iintro %_ ⟨HO, Tx1, Tr1⟩
  iapply run_bind
  iapply (part4 m ρ K c) $$ [HO Lx2 Px2 Ox2 Lr2 Pr2 Or2]
  · isplitr; · iexact HC
    isplitl [HO]; · iexact HO
    isplitl [Lx2 Px2 Ox2]
    · isplitl [Lx2]; · iexact Lx2
      isplitl [Px2] <;> iassumption
    isplitl [Lr2]; · iexact Lr2
    isplitl [Pr2] <;> iassumption
  iintro %_ ⟨HO, Tx2, Tr2⟩
  iapply run_bind
  iapply (part5 m ρ K c) $$ [HO Lx3 Px3 Ox3 Lr3 Pr3 Or3 Su Sv]
  · isplitr; · iexact HC
    isplitl [HO]; · iexact HO
    isplitl [Lx3 Px3 Ox3]
    · isplitl [Lx3]; · iexact Lx3
      isplitl [Px3] <;> iassumption
    isplitl [Lr3 Pr3 Or3]
    · isplitl [Lr3]; · iexact Lr3
      isplitl [Pr3] <;> iassumption
    isplitl [Su]; · iexact Su
    iexact Sv
  iintro %_ %_ ⟨HO, Tx3, Tr3, Su, Sv⟩
  iapply run_bind
  iapply (part6 m ρ K c) $$ [HO Dr1]
  · isplitr; · iexact HC
    isplitl [HO]; · iexact HO
    iexact Dr1
  iintro ⟨HO, Zr1, Rr1⟩
  iapply run_bind
  iapply (part7 m ρ K c) $$ [HO Dr2 Dr3 Rr1 Hr Sx]
  · isplitr; · iexact HC
    isplitl [HO]; · iexact HO
    isplitl [Dr2]; · iexact Dr2
    isplitl [Dr3]; · iexact Dr3
    isplitl [Rr1]; · iexact Rr1
    isplitl [Hr]; · iexact Hr
    iexact Sx
  iintro ⟨HO, Zr2, Zr3, ⟨Hr, Rr1, Rr2, Rr3⟩, Sx⟩
  iapply run_bind
  iapply (part8 m ρ K c) $$ [Hw]
  · iexact Hw
  iintro %_ Hw
  ihave Hw := (share_w m ρ c).1 $$ Hw
  icases Hw with ⟨Hw, Pw1, Pw2, Pw3⟩
  iapply run_bind
  iapply (part9 m ρ K c) $$ [HO Lw1 Pw1 Ow1]
  · isplitr; · iexact HC
    isplitl [HO]; · iexact HO
    isplitl [Lw1]; · iexact Lw1
    isplitl [Pw1] <;> iassumption
  iintro ⟨HO, Tw1⟩
  iapply run_bind
  iapply (part10 m ρ K c) $$ [HO Lw2 Pw2 Ow2 Lw3 Pw3 Ow3 Hx]
  · isplitr; · iexact HC
    isplitl [HO]; · iexact HO
    isplitl [Lw2 Pw2 Ow2]
    · isplitl [Lw2]; · iexact Lw2
      isplitl [Pw2] <;> iassumption
    isplitl [Lw3 Pw3 Ow3]
    · isplitl [Lw3]; · iexact Lw3
      isplitl [Pw3] <;> iassumption
    iexact Hx
  iintro ⟨HO, Tw2, Tw3, Hx⟩
  iapply run_bind
  iapply (part11 m ρ K c) $$ [Hp Hc]
  · isplitl [Hp]; · iexact Hp
    iexact Hc
  iintro %_ ⟨Hp, Hc⟩
  iapply run_bind
  iapply (part12 m ρ K c) $$ [HO Dx1 Dw1]
  · isplitr; · iexact HC
    isplitl [HO]; · iexact HO
    isplitl [Dx1]; · iexact Dx1
    iexact Dw1
  iintro %_ ⟨HO, Zx1, Rx1, Zw1, Rw1⟩
  iapply run_bind
  iapply (part13 m ρ c) $$ [Hp3]
  · iexact Hp3
  iintro %_ Pc3
  iapply run_bind
  iapply (part14 m ρ K c) $$ [HO Lc3 Pc3 Oc3 Dx3]
  · isplitr; · iexact HC
    isplitl [HO]; · iexact HO
    isplitl [Lc3 Pc3 Oc3]
    · isplitl [Lc3]; · iexact Lc3
      isplitl [Pc3] <;> iassumption
    iexact Dx3
  iintro %_ ⟨HO, Tc3, Zx3, Rx3⟩
  iapply run_bind
  iapply (part15 m ρ K c) $$ [HO Dw3]
  · isplitr; · iexact HC
    isplitl [HO]; · iexact HO
    iexact Dw3
  iintro ⟨HO, Zw3, Rw3⟩
  iapply run_bind
  iapply (part16 m ρ K c) $$ [HO Hp1 Lc1 Oc1]
  · isplitr; · iexact HC
    isplitl [HO]; · iexact HO
    isplitl [Hp1]; · iexact Hp1
    isplitl [Lc1] <;> iassumption
  iintro %_ ⟨HO, Tc1⟩
  iapply run_bind
  iapply (part17 m ρ K c) $$ [HO Dx2 Dw2]
  · isplitr; · iexact HC
    isplitl [HO]; · iexact HO
    isplitl [Dx2]; · iexact Dx2
    iexact Dw2
  iintro ⟨HO, Zx2, Rx2, Zw2, Rw2⟩
  iapply run_bind
  iapply (part18 m ρ K c) $$ [HO Hp2 Lc2 Oc2]
  · isplitr; · iexact HC
    isplitl [HO]; · iexact HO
    isplitl [Hp2]; · iexact Hp2
    isplitl [Lc2] <;> iassumption
  iintro %_ ⟨HO, Tc2⟩
  iapply run_bind
  iapply (part19 m ρ K c) $$ [HO Dc1 Dc2]
  · isplitr; · iexact HC
    isplitl [HO]; · iexact HO
    isplitl [Dc1]; · iexact Dc1
    iexact Dc2
  iintro %_ ⟨HO, ⟨Zc1, Rc1⟩, Zc2, Rc2⟩
  iapply run_bind
  iapply (part20 m ρ K c) $$ [HO Dc3 Hc Rc1 Rc2 So]
  · isplitr; · iexact HC
    isplitl [HO]; · iexact HO
    isplitl [Dc3]; · iexact Dc3
    isplitl [Hc]; · iexact Hc
    isplitl [Rc1]; · iexact Rc1
    isplitl [Rc2]; · iexact Rc2
    iexact So
  iintro ⟨HO, Zc3, Hc, So⟩
  iapply run_bind
  iapply (part21 m ρ K c) $$ [HO Tx1 Tr1 Tx2 Tr2]
  · isplitr; · iexact HC
    isplitl [HO]; · iexact HO
    isplitl [Tx1]; · iexact Tx1
    isplitl [Tr1]; · iexact Tr1
    isplitl [Tx2]; · iexact Tx2
    iexact Tr2
  iintro ⟨HO, ⟨Yx1, Px1⟩, ⟨Yr1, Pr1⟩, ⟨Yx2, Px2⟩, Yr2, Pr2⟩
  iapply run_bind
  iapply (part22 m ρ K c) $$ [HO Tx3 Tr3 Tw1 Tw2]
  · isplitr; · iexact HC
    isplitl [HO]; · iexact HO
    isplitl [Tx3]; · iexact Tx3
    isplitl [Tr3]; · iexact Tr3
    isplitl [Tw1]; · iexact Tw1
    iexact Tw2
  iintro ⟨HO, ⟨Yx3, Px3⟩, ⟨Yr3, Pr3⟩, ⟨Yw1, Pw1⟩, Yw2, Pw2⟩
  simp only [Prog.lift, Prog.bind_op, Prog.bind_ret, Prog.pure_eq_ret]
  iapply (sent_step m ρ K c 2 3 (by decide) rfl credit_w) $$ [HO Tw3]
  · isplitr; · iexact HC
    isplitl [HO] <;> iassumption
  iintro ⟨HO, Yw3, Pw3⟩
  iapply (sent_step m ρ K c 3 3 (by decide) rfl credit_p) $$ [HO Tc3]
  · isplitr; · iexact HC
    isplitl [HO] <;> iassumption
  iintro ⟨HO, Yc3, Pc3⟩
  iapply (sent_step m ρ K c 3 1 (by decide) rfl credit_p) $$ [HO Tc1]
  · isplitr; · iexact HC
    isplitl [HO] <;> iassumption
  iintro ⟨HO, Yc1, Pc1⟩
  iapply run_ret
  iapply (sent_step m ρ K c 3 2 (by decide) rfl credit_p) $$ [HO Tc2]
  · isplitr; · iexact HC
    isplitl [HO] <;> iassumption
  iintro ⟨HO, Yc2, Pc2⟩
  iapply run_ret; iapply Hk
  ihave Hx := (share_x m ρ c).2 $$ [Hx Px1 Px2 Px3]
  · isplitl [Hx]; · iexact Hx
    isplitl [Px1]; · iexact Px1
    isplitl [Px2] <;> iassumption
  ihave Hr := (share_r m ρ c).2 $$ [Hr Pr1 Pr2 Pr3]
  · isplitl [Hr]; · iexact Hr
    isplitl [Pr1]; · iexact Pr1
    isplitl [Pr2] <;> iassumption
  ihave Hw := (share_w m ρ c).2 $$ [Hw Pw1 Pw2 Pw3]
  · isplitl [Hw]; · iexact Hw
    isplitl [Pw1]; · iexact Pw1
    isplitl [Pw2] <;> iassumption
  ihave Hx := (whole_x m ρ c) $$ [Hx Rx1 Rx2 Rx3]
  · isplitl [Hx]; · iexact Hx
    isplitl [Rx1]; · iexact Rx1
    isplitl [Rx2] <;> iassumption
  ihave Hr := (whole_r m ρ c) $$ [Hr Rr1 Rr2 Rr3]
  · isplitl [Hr]; · iexact Hr
    isplitl [Rr1]; · iexact Rr1
    isplitl [Rr2] <;> iassumption
  ihave Hw := (whole_w m ρ c) $$ [Hw Rw1 Rw2 Rw3]
  · isplitl [Hw]; · iexact Hw
    isplitl [Rw1]; · iexact Rw1
    isplitl [Rw2] <;> iassumption
  ihave Hp := (whole_p m ρ c) $$ [Hp Pc1 Pc2 Pc3]
  · isplitl [Hp]; · iexact Hp
    isplitl [Pc3]; · iexact Pc3
    isplitl [Pc2] <;> iassumption
  isplitl [HO]; · iexact HO
  isplitl [Zb]; · iexact Zb
  isplitl [Yx1 Yx2 Yx3 Zx1 Zx2 Zx3 Yr1 Yr2 Yr3 Zr1 Zr2 Zr3 Yw1 Yw2 Yw3 Zw1 Zw2 Zw3 Yc1 Yc2 Yc3 Zc1 Zc2 Zc3]
  · unfold allQuiet
    isplitl [Yx1 Yx2 Yx3 Zx1 Zx2 Zx3]
    · isplitl [Yx1 Yx2 Yx3]
      · iapply (quiet_intro c 0 0); isplitl [Yx1]; · iexact Yx1
        isplitl [Yx2] <;> iassumption
      iapply (quiet_intro c 0 1); isplitl [Zx1]; · iexact Zx1
      isplitl [Zx2] <;> iassumption
    isplitl [Yr1 Yr2 Yr3 Zr1 Zr2 Zr3]
    · isplitl [Yr1 Yr2 Yr3]
      · iapply (quiet_intro c 1 0); isplitl [Yr1]; · iexact Yr1
        isplitl [Yr2] <;> iassumption
      iapply (quiet_intro c 1 1); isplitl [Zr1]; · iexact Zr1
      isplitl [Zr2] <;> iassumption
    isplitl [Yw1 Yw2 Yw3 Zw1 Zw2 Zw3]
    · isplitl [Yw1 Yw2 Yw3]
      · iapply (quiet_intro c 2 0); isplitl [Yw1]; · iexact Yw1
        isplitl [Yw2] <;> iassumption
      iapply (quiet_intro c 2 1); isplitl [Zw1]; · iexact Zw1
      isplitl [Zw2] <;> iassumption
    isplitl [Yc1 Yc2 Yc3]
    · iapply (quiet_intro c 3 0); isplitl [Yc1]; · iexact Yc1
      isplitl [Yc2] <;> iassumption
    iapply (quiet_intro c 3 1); isplitl [Zc1]; · iexact Zc1
    isplitl [Zc2] <;> iassumption
  isplitl [Hx Hr Hw Hp Hc]
  · unfold stacksOut
    isplitl [Hx]; · iexact Hx
    isplitl [Hr]; · iexact Hr
    isplitl [Hw]; · iexact Hw
    isplitl [Hp] <;> iassumption
  isplitl [Sx Sr Su Sv]
  · isplitl [Sx]; · iexact Sx
    isplitl [Sr]; · iexact Sr
    isplitl [Su] <;> iassumption
  iexact So

end Cert.Moe

end
-- ==== Proof.Deal.lean ====
/-
  What the launch hands out: the cells' invariants, the positions on them, the tokens of the copies and signals and
  the credits, dealt to the devices that use them.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## Families over small index types -/

omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A family over the barrier and the transfer semaphores, split. -/
theorem bigSep_option (Φ : Option Key → sProp 𝕄) : bigSep Finset.univ Φ = iprop(Φ none ∗ bigSep Finset.univ fun i => Φ (some i)) := by
  rw [bigSep_univ_equiv ((Equiv.sumComm PUnit.{1} Key).trans (Equiv.optionEquivSumPUnit.{0, 0} Key).symm) Φ, bigSep_univ_sum]
  refine congrArg₂ _ ?_ rfl
  exact bigSep_univ_eq_bigSepL [PUnit.unit] (by decide) (by decide) _

omit [FloatOps F] in
/-- A family over the transfer semaphores, by kind and peer: the sends, then the receives. -/
theorem bigSep_key (Φ : Key → sProp 𝕄) :
    bigSep Finset.univ Φ = iprop((bigSep Finset.univ fun kd : Fin 4 × Fin 4 => Φ (kd.1, 0, kd.2)) ∗ bigSep Finset.univ fun kd : Fin 4 × Fin 4 => Φ (kd.1, 1, kd.2)) := by
  rw [bigSep_univ_prod, bigSep_univ_prod (fun kd : Fin 4 × Fin 4 => Φ (kd.1, 0, kd.2)), bigSep_univ_prod (fun kd : Fin 4 × Fin 4 => Φ (kd.1, 1, kd.2)), ← bigSep_sep']
  exact bigSep_congr fun k _ => by rw [bigSep_univ_prod, bigSep_two]

omit [FloatOps F] in
/-- A family over kinds and peers: the peers zero apart. -/
theorem bigSep_pairs (Φ : Fin 4 → Fin 4 → sProp 𝕄) :
    (bigSep Finset.univ fun kd : Fin 4 × Fin 4 => Φ kd.1 kd.2)
      = iprop((bigSep Finset.univ fun k => Φ k 0) ∗ bigSep Finset.univ fun k => iprop(Φ k 1 ∗ Φ k 2 ∗ Φ k 3)) := by
  rw [bigSep_univ_prod, ← bigSep_sep']
  exact bigSep_congr fun k _ => bigSep_four _

/-! ## The tokens -/

/-- The tokens made at launch: for each device those of its barrier, by number, and those of its sends and receives. -/
abbrev tokOf (x : Dev nD × (Fin 4 ⊕ (Fin 4 × Fin 4) ⊕ (Fin 4 × Fin 4))) : GSem nD τ sig × ℕ × Fin 4 := match x.2 with
  | .inl e => (bar x.1, 0, e)
  | .inr (.inl kd) => (cell x.1 kd.1 0 kd.2, 0, 0)
  | .inr (.inr kd) => (cell x.1 kd.1 1 kd.2, 0, 0)

theorem tokOf_injective : Function.Injective tokOf := by
  rintro ⟨c, j⟩ ⟨c', j'⟩ h
  have h1 : c = c' := by
    have := congrArg (fun x : GSem nD τ sig × ℕ × Fin 4 => x.1.1.1) h
    rcases j with e | ⟨k, d⟩ | ⟨k, d⟩ <;> rcases j' with e' | ⟨k', d'⟩ | ⟨k', d'⟩ <;> exact this
  subst h1
  have h2 := congrArg (fun x : GSem nD τ sig × ℕ × Fin 4 => x.1.2) h
  have h3 := congrArg (fun x : GSem nD τ sig × ℕ × Fin 4 => x.2.2) h
  rcases j with e | ⟨k, d⟩ | ⟨k, d⟩ <;> rcases j' with e' | ⟨k', d'⟩ | ⟨k', d'⟩
  · have : e = e' := h3
    rw [this]
  · exact absurd h2 (by intro h; cases h)
  · exact absurd h2 (by intro h; cases h)
  · exact absurd h2 (by intro h; cases h)
  · obtain ⟨rfl, -, rfl⟩ := dsem_injective (SemLoc.dma.inj h2); rfl
  · obtain ⟨-, h, -⟩ := dsem_injective (SemLoc.dma.inj h2); exact absurd h (by decide)
  · exact absurd h2 (by intro h; cases h)
  · obtain ⟨-, h, -⟩ := dsem_injective (SemLoc.dma.inj h2); exact absurd h (by decide)
  · obtain ⟨rfl, -, rfl⟩ := dsem_injective (SemLoc.dma.inj h2); rfl

def tokens : Finset (GSem nD τ sig × ℕ × Fin 4) := Finset.univ.map ⟨tokOf, tokOf_injective⟩

omit [FloatOps F] in
/-- The tokens of a device's own cells. -/
def toks (c : Dev nD) : sProp 𝕄 :=
  iprop((bigSep Finset.univ fun e : Fin 4 => dutyTok ER (bar c) 0 e)
    ∗ (bigSep Finset.univ fun kd : Fin 4 × Fin 4 => dutyTok ER (cell c kd.1 0 kd.2) 0 0)
    ∗ bigSep Finset.univ fun kd : Fin 4 × Fin 4 => dutyTok ER (cell c kd.1 1 kd.2) 0 0)

omit [FloatOps F] in
/-- The tokens a device uses. -/
def payToks (c : Dev nD) : sProp 𝕄 :=
  iprop((bigSep Finset.univ fun d : Fin 4 => ring c d)
    ∗ (bigSep Finset.univ fun kd : Fin 4 × Fin 4 => dutyTok ER (cell c kd.1 0 kd.2) 0 0)
    ∗ bigSep Finset.univ fun kd : Fin 4 × Fin 4 => dutyTok ER (cell (up c kd.2) kd.1 1 kd.2) 0 0)

theorem opp_opp (d : Fin 4) : opp (opp d) = d := by revert d; decide
theorem opp_ne {d : Fin 4} (hd : d ≠ 0) : opp d ≠ 0 := by revert d; decide

/-- Each device and peer, seen from the peer. -/
def flip : Dev nD × Fin 4 ≃ Dev nD × Fin 4 where
  toFun x := (up x.1 x.2, opp x.2)
  invFun x := (up x.1 x.2, opp x.2)
  left_inv x := Prod.ext (up_opp _ _) (opp_opp _)
  right_inv x := Prod.ext (up_opp _ _) (opp_opp _)

/-- Each device, kind and peer, seen from the peer. -/
def across : Dev nD × (Fin 4 × Fin 4) ≃ Dev nD × (Fin 4 × Fin 4) where
  toFun x := (up x.1 x.2.2, x.2)
  invFun x := (dn x.1 x.2.2, x.2)
  left_inv x := Prod.ext (dn_up _ _) rfl
  right_inv x := Prod.ext (up_dn _ _) rfl

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep',
    ← bigSep_univ_prod (fun x : Dev nD × Fin 4 => (dutyTok ER (bar x.1) 0 x.2 : sProp 𝕄)), bigSep_univ_equiv flip,
    ← bigSep_univ_prod (fun x : Dev nD × (Fin 4 × Fin 4) => (dutyTok ER (cell x.1 x.2.1 1 x.2.2) 0 0 : sProp 𝕄)), bigSep_univ_equiv across,
    bigSep_univ_prod, bigSep_univ_prod (fun x : Dev nD × (Fin 4 × Fin 4) => (dutyTok ER (cell (across x).1 (across x).2.1 1 (across x).2.2) 0 0 : sProp 𝕄))]
  rfl

/-! ## What the launch makes, and what each device gets of it -/

/-- What is made for device `c`. -/
def made (c : Dev nD) : sProp 𝕄 :=
  iprop((bigSep Finset.univ fun i : Option Key => roundState ER (Rd m ρ) (kcell (c, i)) 0)
    ∗ (bigSep Finset.univ fun i : Option Key => iprop(atPos ER (kcell (c, i)) 0 ∅ 0 ∗ reached ER (kcell (c, i)) 0)) ∗ toks c)

omit [FloatOps F] in
/-- What stays with device `c`: its positions and the tokens it uses. -/
def stake (c : Dev nD) : sProp 𝕄 := iprop((bigSep Finset.univ fun i : Option Key => atPos ER (kcell (c, i)) 0 ∅ 0) ∗ payToks c)

/-- What device `c` gets. -/
def dealt (c : Dev nD) : sProp 𝕄 := iprop((∃ K, records m ρ K) ∗ stake c)

theorem fund_net : BI.own (ER (initOf cells tokens)) ⊢ (|==> bigSep Finset.univ (made m ρ) : sProp 𝕄) := by
  have hX (Φ : GSem nD τ sig → sProp 𝕄) : bigSep cells Φ = bigSep Finset.univ fun c : Dev nD => bigSep Finset.univ fun i : Option Key => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund ER (Rd m ρ) cells tokens) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold made; simp only [bigSep_sep']
  isplitl [Hst]; · iexact Hst
  isplitl [Hat Hr]
  · isplitl [Hat] <;> iassumption
  iexact Htok

omit [FloatOps F] in
theorem unscoped_eq (c : Dev nD) : (unscopedSems0 c : sProp 𝕄) = semVal (bar c) 0 := by
  unfold unscopedSems0; rw [bigSep_eq_bigSepL_of_eq [SemLoc.reg barS] (by decide) (by decide)]; rfl

omit [FloatOps F] in
/-- A device's counters, all at zero, by cell. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : Option Key => semVal (kcell (c, i)) 0 : sProp 𝕄) := by
  rw [unscoped_eq, bigSep_option]
  unfold Pipeline.ownSems0
  iintro ⟨HS, HB⟩
  isplitl [HB]; · iexact HB
  iexact HS

theorem alloc_one (c : Dev nD) :
    iprop(Pipeline.ownSems0 (Ix := Unit) (Name := ℕ) (U := UU) (Lvl := ℕ) (Val := Elt F) (τ := τ) osem c ∗ unscopedSems0 c ∗ made m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) := by
  unfold made
  iintro ⟨Hos, Hus, Hst, Hat, Htok⟩
  ihave Hv := (sems_eq (F := F) c) $$ [Hos Hus]
  · isplitl [Hos] <;> iassumption
  imod (show iprop((bigSep Finset.univ fun i : Option Key => semVal (kcell (c, i)) 0) ∗ bigSep Finset.univ fun i : Option Key => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The names of the invariants, by cell. -/
def named (K : Dev nD × Option Key → ℕ) : GSem nD τ sig → ℕ := Function.extend kcell K fun _ => 0

theorem records_intro (K : Dev nD × Option Key → ℕ) :
    iprop((bigSep Finset.univ fun ci : Dev nD × Option Key => cellInv ER (Rd m ρ) (K ci) (kcell ci)) ∗ bigSep Finset.univ fun ci : Dev nD × Option Key => reached ER (kcell ci) 0)
      ⊢ records m ρ (named K) := by
  unfold records cells
  rw [bigSep_map, bigSep_map]
  refine Entails.of_eq (congrArg₂ _ ?_ rfl)
  refine bigSep_congr fun ci _ => ?_
  show _ = cellInv ER (Rd m ρ) (Function.extend kcell K (fun _ => 0) (kcell ci)) (kcell ci)
  rw [kcell_injective.extend_apply]

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (dealt m ρ) := by
  rw [bigSep_sep', bigSep_sep', ← bigSep_univ_prod (fun ci : Dev nD × Option Key => iprop(∃ κ : ℕ, cellInv ER (Rd m ρ) κ (kcell ci))),
    bigSep_congr (s := Finset.univ) (fun (c : Dev nD) _ => bigSep_sep' Finset.univ (fun i : Option Key => (atPos ER (kcell (c, i)) 0 ∅ 0 : sProp 𝕄)) (fun i => reached ER (kcell (c, i)) 0)),
    bigSep_sep', ← bigSep_univ_prod (fun ci : Dev nD × Option Key => (reached ER (kcell ci) 0 : sProp 𝕄)), toks_around]
  iintro ⟨HI, ⟨Hat, #HR⟩, Htok⟩
  ihave HK := (BI.bigSep_exists_pi Finset.univ (fun (ci : Dev nD × Option Key) (κ : ℕ) => (cellInv ER (Rd m ρ) κ (kcell ci) : sProp 𝕄))) $$ HI
  icases HK with ⟨%K, #HI⟩
  ihave #HRec := (records_intro m ρ K) $$ []
  · isplitl; · iexact HI
    iexact HR
  have h : iprop(records m ρ (named K) ∗ bigSep Finset.univ fun c : Dev nD => (stake c : sProp 𝕄)) ⊢ bigSep Finset.univ (dealt m ρ) := by
    refine (sep_mono_left (BI.bigSep_of_persistent (Finset.univ : Finset (Fin 4)) _)).trans ?_
    rw [← bigSep_sep']
    refine bigSep_mono fun c _ => ?_
    show iprop(records m ρ (named K) ∗ stake c) ⊢ dealt m ρ c
    unfold dealt
    iintro ⟨H, H'⟩
    isplitl [H]; · iexists _; iexact H
    iexact H'
  iapply h
  isplitr; · iexact HRec
  unfold stake
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ made m ρ c) : sProp 𝕄)
    ⊢ |={Set.univ}=> bigSep Finset.univ (dealt m ρ) :=
  ((bigSep_mono fun c _ => alloc_one m ρ c).trans (bigSep_fupd _ _)).trans (BI.fupd_mono (regroup m ρ))

/-! ## The credits -/

theorem bar_inj {a b : Dev nD} (h : bar a = bar b) : a = b := Fin.ext (congrArg (fun g : GSem nD τ sig => g.1.1.val) h)
theorem cell_inj {a b : Dev nD} {k k' d d' : Fin 4} (h : cell a k 1 d = cell b k' 1 d') : a = b ∧ k = k' ∧ d = d' := by
  obtain ⟨h1, -, h2⟩ := dsem_injective (SemLoc.dma.inj (congrArg Prod.snd h))
  exact ⟨Fin.ext (congrArg (fun g : GSem nD τ sig => g.1.1.val) h), h1, h2⟩

/-- What all the devices together credit to a cell by the steps `l`. -/
theorem owed_total (l : List Step) (g : GSem nD τ sig) :
    ∑ c, owe c l g () = (l.map fun s => ∑ c, if g = s.cell c then s.units else 0).sum := by
  induction l with
  | nil => exact Finset.sum_const_zero
  | cons s l ih =>
    rw [List.map_cons, List.sum_cons, ← ih, add_comm, ← Finset.sum_add_distrib]
    refine Finset.sum_congr rfl fun c _ => ?_
    show owe c l g () + tallyAt (s.cell c) () s.units g () = _
    rw [tallyAt_apply]
    simp only [and_true]

theorem knock_bar (c : Dev nD) (d : Fin 4) : (∑ c', if bar c = (Step.knock d).cell c' then (Step.knock d).units else 0) = 1 := by
  rw [Finset.sum_congr rfl fun c' _ => show _ = if c' = dn c d then 1 else 0 from ?_, Finset.sum_ite_eq' Finset.univ (dn c d) fun _ => 1, if_pos (Finset.mem_univ _)]
  by_cases h : c' = dn c d
  · subst h; rw [if_pos rfl, if_pos (by show bar c = bar (up (dn c d) d); rw [up_dn])]; rfl
  · rw [if_neg h, if_neg fun h' => h (by rw [bar_inj h', dn_up])]
theorem put_bar (c : Dev nD) (k d : Fin 4) : (∑ c', if bar c = (Step.put k d).cell c' then (Step.put k d).units else 0) = 0 :=
  Finset.sum_eq_zero fun c' _ => if_neg fun h => by cases congrArg Prod.snd h
theorem knock_cell (c : Dev nD) (k d e : Fin 4) : (∑ c', if cell c k 1 d = (Step.knock e).cell c' then (Step.knock e).units else 0) = 0 :=
  Finset.sum_eq_zero fun c' _ => if_neg fun h => by cases congrArg Prod.snd h
theorem put_cell (c : Dev nD) (k d k' d' : Fin 4) :
    (∑ c', if cell c k 1 d = (Step.put k' d').cell c' then (Step.put k' d').units else 0) = if k' = k ∧ d' = d then N k else 0 := by
  by_cases h : k' = k ∧ d' = d
  · obtain ⟨rfl, rfl⟩ := h
    rw [if_pos ⟨rfl, rfl⟩]
    rw [Finset.sum_congr rfl fun c' _ => show _ = if c' = dn c d' then N k' else 0 from ?_, Finset.sum_ite_eq' Finset.univ (dn c d') fun _ => N k', if_pos (Finset.mem_univ _)]
    by_cases h : c' = dn c d'
    · subst h; rw [if_pos rfl, if_pos (by show cell c k' 1 d' = cell (up (dn c d') d') k' 1 d'; rw [up_dn])]; rfl
    · rw [if_neg h, if_neg fun h' => h (by rw [(cell_inj h').1, dn_up])]
  · rw [if_neg h]
    exact Finset.sum_eq_zero fun c' _ => if_neg fun h' => h ⟨(cell_inj h').2.1.symm, (cell_inj h').2.2.symm⟩

/-- What every device owes at launch. -/
abbrev debt (c : Dev nD) : CellTallies nD τ sig Unit := owe c steps

theorem launch_tally (g : GSem nD τ sig) (n : ℕ) (h : ∑ c, owe c steps g () = n) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (bar c) (launchCredit (Pipeline.owing debt) 0 (bar c)) = (tallyAt (bar c) () 3 : CellTallies nD τ sig Unit) :=
  launch_tally _ _ (by rw [owed_total]; simp only [steps, stepsX, stepsW, stepsC, List.map_cons, List.map_nil, List.sum_cons, List.sum_nil, knock_bar, put_bar]; rfl)

theorem launch_cell (c : Dev nD) (k d : Fin 4) (hd : d ≠ 0) :
    tallyOn (cell c k 1 d) (launchCredit (Pipeline.owing debt) 0 (cell c k 1 d)) = (tallyAt (cell c k 1 d) () (N k) : CellTallies nD τ sig Unit) :=
  launch_tally _ _ (by
    rw [owed_total]; simp only [steps, stepsX, stepsW, stepsC, List.map_cons, List.map_nil, List.sum_cons, List.sum_nil, knock_cell, put_cell]
    generalize N k = n
    revert k d; intro k d; fin_cases k <;> fin_cases d <;> simp)

theorem csem_injective : Function.Injective (csem : Option Key → SemLoc sig) := fun i i' h => by
  have := kcell_injective (show kcell ((0 : Dev nD), i) = kcell ((0 : Dev nD), i') from Prod.ext rfl h)
  exact congrArg Prod.snd this

/-- The launch's credit on a cell. -/
abbrev launched (g : GSem nD τ sig) : CellTallies nD τ sig Unit := tallyOn g (launchCredit (Pipeline.owing debt) 0 g)

omit [FloatOps F] in
theorem cred_cells (c : Dev nD) :
    (bigSep Finset.univ fun k : Fin 4 => iprop(cred (launched (cell c k 1 1)) ∗ cred (launched (cell c k 1 2)) ∗ cred (launched (cell c k 1 3))) : sProp 𝕄)
      = bigSep Finset.univ fun k : Fin 4 => iprop(cred (tallyAt (cell c k 1 1) () (N k)) ∗ cred (tallyAt (cell c k 1 2) () (N k)) ∗ cred (tallyAt (cell c k 1 3) () (N k))) :=
  bigSep_congr fun k _ => by unfold launched; rw [launch_cell c k 1 (by decide), launch_cell c k 2 (by decide), launch_cell c k 3 (by decide)]

omit [FloatOps F] in
theorem creds (c : Dev nD) :
    (Pipeline.launchCred debt c : sProp 𝕄)
      ⊢ iprop(cred (tallyAt (bar c) () 3) ∗ bigSep Finset.univ fun k : Fin 4 => iprop(cred (tallyAt (cell c k 1 1) () (N k)) ∗ cred (tallyAt (cell c k 1 2) () (N k)) ∗ cred (tallyAt (cell c k 1 3) () (N k)))) := by
  unfold Pipeline.launchCred
  refine (BI.bigSep_subset (Finset.subset_univ (Finset.univ.map ⟨csem, csem_injective⟩))).trans ?_
  rw [bigSep_map, bigSep_option, bigSep_key]
  refine (sep_mono_right (sep_mono_right (Entails.of_eq (bigSep_pairs (fun k d => cred (tallyOn (cell c k 1 d) (launchCredit (Pipeline.owing debt) 0 (cell c k 1 d)))))))).trans ?_
  iintro ⟨Hb, -, -, H⟩
  isplitl [Hb]
  · iapply (Entails.of_eq (congrArg cred (launch_bar c))); iexact Hb
  · iapply (Entails.of_eq (cred_cells (F := F) c)); iexact H

/-! ## A device's tickets -/

omit [FloatOps F] in
/-- The semaphores of the peer zero, which nobody uses. -/
def unused (c : Dev nD) : sProp 𝕄 := iprop((bigSep Finset.univ fun k : Fin 4 => idle c k 0 0) ∗ bigSep Finset.univ fun k : Fin 4 => idle c k 1 0)

theorem close_unused (K : GSem nD τ sig → ℕ) (c : Dev nD) (k : Fin 4) (dir : Fin 2) :
    iprop(records m ρ K ∗ atPos ER (cell c k dir 0) 0 ∅ 0) ⊢ |={Set.univ}=> idle c k dir 0 := by
  iintro ⟨#HR, Hat⟩
  iapply (Rounds.cell_close ER (Rd m ρ) (Set.mem_univ (K (cell c k dir 0))) (fun h => h) (R := 0) (duties_idle m ρ c k dir))
  isplitr; · iapply (inv_at m ρ K (cell_mem c k dir 0)); iexact HR
  iexact Hat

theorem close_all (K : GSem nD τ sig → ℕ) (c : Dev nD) (dir : Fin 2) :
    iprop(records m ρ K ∗ bigSep Finset.univ fun k : Fin 4 => atPos ER (cell c k dir 0) 0 ∅ 0) ⊢ |={Set.univ}=> bigSep Finset.univ fun k : Fin 4 => idle c k dir 0 := by
  refine (sep_mono_left (BI.bigSep_of_persistent (Finset.univ : Finset (Fin 4)) _)).trans ?_
  rw [← bigSep_sep']
  exact (bigSep_mono fun k _ => close_unused m ρ K c k dir).trans (bigSep_fupd _ _)

omit [FloatOps F] in
theorem links_intro (c : Dev nD) (k : Fin 4) :
    iprop((dutyTok ER (cell c k 0 1) 0 0 ∗ dutyTok ER (cell c k 0 2) 0 0 ∗ dutyTok ER (cell c k 0 3) 0 0)
        ∗ (dutyTok ER (cell (up c 1) k 1 1) 0 0 ∗ dutyTok ER (cell (up c 2) k 1 2) 0 0 ∗ dutyTok ER (cell (up c 3) k 1 3) 0 0)
        ∗ (atPos ER (cell c k 0 1) 0 ∅ 0 ∗ atPos ER (cell c k 0 2) 0 ∅ 0 ∗ atPos ER (cell c k 0 3) 0 ∅ 0)) ⊢ (links c k : sProp 𝕄) := by
  unfold links link
  iintro ⟨⟨A1, A2, A3⟩, ⟨B1, B2, B3⟩, ⟨C1, C2, C3⟩⟩
  isplitl [A1 B1 C1]
  · isplitl [A1]; · iexact A1
    isplitl [B1] <;> iassumption
  isplitl [A2 B2 C2]
  · isplitl [A2]; · iexact A2
    isplitl [B2] <;> iassumption
  isplitl [A3]; · iexact A3
  isplitl [B3] <;> iassumption

omit [FloatOps F] in
theorem dues_intro (c : Dev nD) (k : Fin 4) :
    iprop((cred (tallyAt (cell c k 1 1) () (N k)) ∗ cred (tallyAt (cell c k 1 2) () (N k)) ∗ cred (tallyAt (cell c k 1 3) () (N k)))
        ∗ (atPos ER (cell c k 1 1) 0 ∅ 0 ∗ atPos ER (cell c k 1 2) 0 ∅ 0 ∗ atPos ER (cell c k 1 3) 0 ∅ 0)) ⊢ (dues c k : sProp 𝕄) := by
  unfold dues due
  iintro ⟨⟨A1, A2, A3⟩, B1, B2, B3⟩
  isplitl [A1 B1]
  · isplitl [A1] <;> iassumption
  isplitl [A2 B2]
  · isplitl [A2] <;> iassumption
  isplitl [A3] <;> iassumption

omit [FloatOps F] in
theorem all_links (c : Dev nD) :
    (bigSep Finset.univ fun k : Fin 4 => iprop((dutyTok ER (cell c k 0 1) 0 0 ∗ dutyTok ER (cell c k 0 2) 0 0 ∗ dutyTok ER (cell c k 0 3) 0 0)
        ∗ (dutyTok ER (cell (up c 1) k 1 1) 0 0 ∗ dutyTok ER (cell (up c 2) k 1 2) 0 0 ∗ dutyTok ER (cell (up c 3) k 1 3) 0 0)
        ∗ (atPos ER (cell c k 0 1) 0 ∅ 0 ∗ atPos ER (cell c k 0 2) 0 ∅ 0 ∗ atPos ER (cell c k 0 3) 0 ∅ 0)))
      ⊢ (iprop(links c 0 ∗ links c 1 ∗ links c 2 ∗ links c 3) : sProp 𝕄) := by
  rw [← bigSep_four (fun k => (links c k : sProp 𝕄))]
  exact bigSep_mono fun k _ => links_intro c k

omit [FloatOps F] in
theorem all_dues (c : Dev nD) :
    (bigSep Finset.univ fun k : Fin 4 => iprop((cred (tallyAt (cell c k 1 1) () (N k)) ∗ cred (tallyAt (cell c k 1 2) () (N k)) ∗ cred (tallyAt (cell c k 1 3) () (N k)))
        ∗ (atPos ER (cell c k 1 1) 0 ∅ 0 ∗ atPos ER (cell c k 1 2) 0 ∅ 0 ∗ atPos ER (cell c k 1 3) 0 ∅ 0)))
      ⊢ (iprop(dues c 0 ∗ dues c 1 ∗ dues c 2 ∗ dues c 3) : sProp 𝕄) := by
  rw [← bigSep_four (fun k => (dues c k : sProp 𝕄))]
  exact bigSep_mono fun k _ => dues_intro c k

/-- What a device is dealt, with its credits, is its tickets. -/
theorem tickets_intro (c : Dev nD) :
    iprop(dealt m ρ c ∗ Pipeline.launchCred debt c) ⊢ |={Set.univ}=> iprop((∃ K, records m ρ K) ∗ tickets c ∗ unused c) := by
  unfold dealt stake payToks
  rw [bigSep_option, bigSep_key, bigSep_pairs (fun k d => (atPos ER (cell c k 0 d) 0 ∅ 0 : sProp 𝕄)), bigSep_pairs (fun k d => (atPos ER (cell c k 1 d) 0 ∅ 0 : sProp 𝕄)),
    bigSep_pairs (fun k d => (dutyTok ER (cell c k 0 d) 0 0 : sProp 𝕄)), bigSep_pairs (fun k d => (dutyTok ER (cell (up c d) k 1 d) 0 0 : sProp 𝕄)), bigSep_four (fun d => ring c d)]
  iintro ⟨⟨⟨%K, #HR⟩, ⟨Hb, ⟨Hs0, Hs⟩, Hr0, Hr⟩, ⟨-, R1, R2, R3⟩, ⟨-, Ts⟩, -, Tr⟩, Hc⟩
  ihave Hc := (creds (F := F) c) $$ Hc
  icases Hc with ⟨Cb, Cr⟩
  imod (close_all m ρ K c 0) $$ [Hs0] with Z0
  · isplitr; · iexact HR
    iexact Hs0
  imod (close_all m ρ K c 1) $$ [Hr0] with Z1
  · isplitr; · iexact HR
    iexact Hr0
  imodintro
  isplitr; · iexists K; iexact HR
  isplitr [Z0 Z1]
  · unfold tickets expected
    isplitl [R1 R2 R3]
    · isplitl [R1]; · iexact R1
      isplitl [R2] <;> iassumption
    isplitl [Cb Hb]
    · isplitl [Cb] <;> iassumption
    isplitl [Ts Tr Hs]
    · iapply (all_links (F := F) c)
      simp only [bigSep_sep']
      icases Ts with ⟨A1, A2, A3⟩
      icases Tr with ⟨B1, B2, B3⟩
      icases Hs with ⟨C1, C2, C3⟩
      isplitl [A1 A2 A3]
      · isplitl [A1]; · iexact A1
        isplitl [A2] <;> iassumption
      isplitl [B1 B2 B3]
      · isplitl [B1]; · iexact B1
        isplitl [B2] <;> iassumption
      isplitl [C1]; · iexact C1
      isplitl [C2] <;> iassumption
    · iapply (all_dues (F := F) c)
      simp only [bigSep_sep']
      icases Cr with ⟨A1, A2, A3⟩
      icases Hr with ⟨B1, B2, B3⟩
      isplitl [A1 A2 A3]
      · isplitl [A1]; · iexact A1
        isplitl [A2] <;> iassumption
      isplitl [B1]; · iexact B1
      isplitl [B2] <;> iassumption
  · unfold unused
    isplitl [Z0] <;> iassumption

omit [FloatOps F] in
/-- All counters of the kernel's own semaphores at zero. -/
theorem own_intro (c : Dev nD) :
    iprop(allQuiet c ∗ unused c) ⊢ (Pipeline.ownSems0 (Ix := Unit) (Name := ℕ) (U := UU) (Lvl := ℕ) (Val := Elt F) (τ := τ) osem c : sProp 𝕄) := by
  unfold Pipeline.ownSems0
  rw [bigSep_key, bigSep_pairs (fun k d => (semVal (cell c k 0 d) 0 : sProp 𝕄)), bigSep_pairs (fun k d => (semVal (cell c k 1 d) 0 : sProp 𝕄))]
  unfold allQuiet unused
  iintro ⟨⟨⟨A0, B0⟩, ⟨A1, B1⟩, ⟨A2, B2⟩, A3, B3⟩, Z0, Z1⟩
  isplitl [A0 A1 A2 A3 Z0]
  · isplitl [Z0]; · iexact Z0
    iapply (Entails.of_eq (bigSep_four (fun k => (quiet c k 0 : sProp 𝕄))).symm)
    isplitl [A0]; · iexact A0
    isplitl [A1]; · iexact A1
    isplitl [A2] <;> iassumption
  · isplitl [Z1]; · iexact Z1
    iapply (Entails.of_eq (bigSep_four (fun k => (quiet c k 1 : sProp 𝕄))).symm)
    isplitl [B0]; · iexact B0
    isplitl [B1]; · iexact B1
    isplitl [B2] <;> iassumption

end Cert.Moe

end
-- ==== Proof.Launch.lean ====
/-
  The launch: from any memory with zero counters the kernel runs to its end on every device, the arguments keep their
  contents and the result holds what the body stores.
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## Scratch buffers as stacks -/

section Stack
variable {a b : ℕ} {e : EltTy} (M : Memref sig .tc .vmem (Stk a b) e)

omit [FloatOps F] in
/-- A stack with any contents, slab by slab. -/
theorem open_stack (c : Dev nD) (f : Buf (Elt F) (M.view.loc (c : Thread nD τ))) :
    (stk M c fullShare f : sProp 𝕄) ⊢ iprop((∃ f, slab M c c fullShare f) ∗ (∃ f, slab M c (up c 3) fullShare f) ∗ (∃ f, slab M c (up c 2) fullShare f) ∗ (∃ f, slab M c (up c 1) fullShare f)) := by
  rw [stk_up]
  iintro ⟨H0, H3, H2, H1⟩
  isplitl [H0]; · iexists f; iexact H0
  isplitl [H3]; · iexists f; iexact H3
  isplitl [H2]; · iexists f; iexact H2
  iexists f; iexact H1
end Stack

omit [FloatOps F] in
theorem scratch_x (c : Dev nD) (f : Buf (Elt F) ((c : Thread nD τ).loc cc0_scratch0)) : (((c : Thread nD τ).loc cc0_scratch0) ↦{fullShare} f : sProp 𝕄) = stk xA c fullShare f := by
  unfold stk; simp only [Memref.view_whole, View.set_whole]
omit [FloatOps F] in
theorem scratch_r (c : Dev nD) (f : Buf (Elt F) ((c : Thread nD τ).loc cc0_scratch1)) : (((c : Thread nD τ).loc cc0_scratch1) ↦{fullShare} f : sProp 𝕄) = stk rA c fullShare f := by
  unfold stk; simp only [Memref.view_whole, View.set_whole]
omit [FloatOps F] in
theorem scratch_w (c : Dev nD) (f : Buf (Elt F) ((c : Thread nD τ).loc cc0_scratch2)) : (((c : Thread nD τ).loc cc0_scratch2) ↦{fullShare} f : sProp 𝕄) = stk wA c fullShare f := by
  unfold stk; simp only [Memref.view_whole, View.set_whole]
omit [FloatOps F] in
theorem scratch_p (c : Dev nD) (f : Buf (Elt F) ((c : Thread nD τ).loc cc0_scratch3)) : (((c : Thread nD τ).loc cc0_scratch3) ↦{fullShare} f : sProp 𝕄) = stk pA c fullShare f := by
  unfold stk; simp only [Memref.view_whole, View.set_whole]
omit [FloatOps F] in
theorem scratch_c (c : Dev nD) (f : Buf (Elt F) ((c : Thread nD τ).loc cc0_scratch4)) : (((c : Thread nD τ).loc cc0_scratch4) ↦{fullShare} f : sProp 𝕄) = stk cA c fullShare f := by
  unfold stk; simp only [Memref.view_whole, View.set_whole]

omit [FloatOps F] in
theorem slabs_intro (c : Dev nD) : (Pipeline.scopedRest (Ix := Unit) (Name := ℕ) (U := UU) (Lvl := ℕ) (Val := Elt F) spec0 c : sProp 𝕄) ⊢ slabsIn c := by
  rw [scopedRest0_eq]
  unfold slabsIn landing hole
  iintro ⟨⟨%fx, Hx⟩, ⟨%fr, Hr⟩, ⟨%fw, Hw⟩, ⟨%fp, Hp⟩, ⟨%fc, Hc⟩⟩
  ihave Hx := ((Entails.of_eq (scratch_x (F := F) c fx)).trans (open_stack xA c fx)) $$ Hx
  ihave Hr := ((Entails.of_eq (scratch_r (F := F) c fr)).trans (open_stack rA c fr)) $$ Hr
  ihave Hw := ((Entails.of_eq (scratch_w (F := F) c fw)).trans (open_stack wA c fw)) $$ Hw
  ihave Hp := ((Entails.of_eq (scratch_p (F := F) c fp)).trans (open_stack pA c fp)) $$ Hp
  ihave Hc := ((Entails.of_eq (scratch_c (F := F) c fc)).trans (open_stack cA c fc)) $$ Hc
  icases Hx with ⟨X0, X3, X2, X1⟩
  icases Hr with ⟨R0, R3, R2, R1⟩
  icases Hw with ⟨W0, W3, W2, W1⟩
  icases Hp with ⟨P0, P3, P2, P1⟩
  icases Hc with ⟨C0, C3, C2, C1⟩
  isplitl [X1 R1 W1 C1 X2 R2 W2 C2 X3 R3 W3 C3]
  · isplitl [X1 R1 W1 C1]
    · isplitl [X1]; · iexact X1
      isplitl [R1]; · iexact R1
      isplitl [W1] <;> iassumption
    isplitl [X2 R2 W2 C2]
    · isplitl [X2]; · iexact X2
      isplitl [R2]; · iexact R2
      isplitl [W2] <;> iassumption
    isplitl [X3]; · iexact X3
    isplitl [R3]; · iexact R3
    isplitl [W3] <;> iassumption
  isplitl [X0]; · iexact X0
  isplitl [R0]; · iexact R0
  isplitl [W0]; · iexact W0
  isplitl [C0]; · iexact C0
  isplitl [P0]; · iexact P0
  isplitl [P1]; · iexact P1
  isplitl [P2] <;> iassumption

theorem stacks_exit (c : Dev nD) : stacksOut m ρ c ⊢ (Pipeline.scopedRest (Ix := Unit) (Name := ℕ) (U := UU) (Lvl := ℕ) (Val := Elt F) spec0 c : sProp 𝕄) := by
  rw [scopedRest0_eq]
  unfold stacksOut
  iintro ⟨Hx, Hr, Hw, Hp, Hc⟩
  isplitl [Hx]; · iexists (xAll m ρ c); iapply (Entails.of_eq (scratch_x c (xAll m ρ c)).symm); iexact Hx
  isplitl [Hr]; · iexists (rAllAt m ρ c); iapply (Entails.of_eq (scratch_r c (rAllAt m ρ c)).symm); iexact Hr
  isplitl [Hw]; · iexists (wAll m ρ c); iapply (Entails.of_eq (scratch_w c (wAll m ρ c)).symm); iexact Hw
  isplitl [Hp]; · iexists (pAll m ρ c); iapply (Entails.of_eq (scratch_p c (pAll m ρ c)).symm); iexact Hp
  iexists (cAll m ρ c); iapply (Entails.of_eq (scratch_c c (cAll m ρ c)).symm); iexact Hc

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device holds before the body, the buffers apart, -/
def start (c : Dev nD) : sProp 𝕄 := iprop((∃ K, ctx m ρ K) ∗ tickets c ∗ unused c)
/-- and with the scratch buffers; -/
def before₀ (c : Dev nD) : sProp 𝕄 := iprop(start m ρ c ∗ slabsIn c)
/-- and after the body. -/
def after₀ (c : Dev nD) : sProp 𝕄 := iprop(semVal (bar c) 0 ∗ (allQuiet c ∗ unused c) ∗ stacksOut m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rst m ρ c
    | ⟨2, _⟩ => ust m ρ c
    | ⟨3, _⟩ => vst m ρ c
    | ⟨4, _⟩ => outAt m ρ c
  Φ t := match t with
    | ⟨0, _⟩ => before₀ m ρ c
    | ⟨_ + 1, _⟩ => after₀ m ρ c
  q _ := fullShare
  owed t := match t with
    | ⟨0, _⟩ => debt c
    | ⟨_ + 1, _⟩ => 0

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem fetch_in (w : Fin cfg0.W) (h : w ≠ (4 : Fin 5)) (t : Fin cfg0.N) : (cfg0.win w).fetch t = true := by
  rw [fin_N t]; revert h; revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem held_of_stg (c : Dev nD) (b : Ref sig .tc) {D : Type} (g : D → b.ty.Contents (Elt F)) (X : b.ty.Contents (Elt F)) (h : ∀ d, g d = X) :
    iprop(∃ d, stg c b (g d)) ⊢ (held c b X : sProp 𝕄) := by
  iintro ⟨%d, %f, %hf, H⟩
  subst hf
  iapply (Entails.of_eq (congrArg (held c b) (h d)))
  iexact H
omit [FloatOps F] in
theorem stg_of_held (c : Dev nD) (b : Ref sig .tc) (X : b.ty.Contents (Elt F)) : (held c b X : sProp 𝕄) ⊢ stg c b X := by
  iintro H; iexists X; isplitr; · (ipureintro; rfl)
  iexact H

def bodyPre (c : Dev nD) : sProp 𝕄 :=
  iprop(before₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(after₀ m ρ c ∗ (dats m ρ 0 c).owesAt () t₀.succ ∗ stg c cc0_stg0_0 (xst m ρ c) ∗ stg c cc0_stg1_0 (rst m ρ c) ∗ stg c cc0_stg2_0 (ust m ρ c)
    ∗ stg c cc0_stg3_0 (vst m ρ c) ∗ stg c cc0_stg4_0 (outAt m ρ c))

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ run c (onArgs cc0_body) (fun _ => bodyPost m ρ c)
  unfold bodyPre before₀ start
  iintro ⟨⟨⟨⟨%K, #HC⟩, Ht, Hu⟩, Hs⟩, Ho, Sx, Sr, Su, Sv, So⟩
  ihave Sx := (held_of_stg (F := F) c cc0_stg0_0 ((dats m ρ 0 c).before (0 : Fin 5) t₀) (xst m ρ c) fun d => by unfold Dat.before; rw [if_pos (fetch_in 0 (by decide) t₀)]; rfl) $$ Sx
  ihave Sr := (held_of_stg (F := F) c cc0_stg1_0 ((dats m ρ 0 c).before (1 : Fin 5) t₀) (rst m ρ c) fun d => by unfold Dat.before; rw [if_pos (fetch_in 1 (by decide) t₀)]; rfl) $$ Sr
  ihave Su := (held_of_stg (F := F) c cc0_stg2_0 ((dats m ρ 0 c).before (2 : Fin 5) t₀) (ust m ρ c) fun d => by unfold Dat.before; rw [if_pos (fetch_in 2 (by decide) t₀)]; rfl) $$ Su
  ihave Sv := (held_of_stg (F := F) c cc0_stg3_0 ((dats m ρ 0 c).before (3 : Fin 5) t₀) (vst m ρ c) fun d => by unfold Dat.before; rw [if_pos (fetch_in 3 (by decide) t₀)]; rfl) $$ Sv
  icases So with ⟨%d4, %g4, %hg4, So⟩
  unfold Dat.owesAt Pipeline.owesWithin
  icases Ho with ⟨%W, %hW, HO⟩
  rw [show (dats m ρ 0 c).owed t₀.castSucc = owe c steps from rfl]
  iapply (body_run m ρ K c) $$ [HO Ht Hs Sx Sr Su Sv So]
  · isplitr; · iexact HC
    isplitl [HO]; · unfold owing; iexists W; iexact HO
    isplitl [Ht]; · iexact Ht
    isplitl [Hs]; · iexact Hs
    isplitl [Sx Sr Su Sv]
    · unfold inputs
      isplitl [Sx]; · iexact Sx
      isplitl [Sr]; · iexact Sr
      isplitl [Su] <;> iassumption
    iexists g4; iexact So
  unfold owing inputs
  iintro ⟨⟨%W', HO⟩, Zb, Hq, Hs, ⟨Sx, Sr, Su, Sv⟩, So⟩
  unfold bodyPost after₀ Dat.owesAt Pipeline.owesWithin
  rw [show (dats m ρ 0 c).owed t₀.succ = 0 from rfl]
  isplitl [Zb Hq Hs Hu]
  · isplitl [Zb]; · iexact Zb
    isplitl [Hq Hu]
    · isplitl [Hq] <;> iassumption
    iexact Hs
  isplitl [HO]
  · iexists W'
    isplitr; · ipureintro; exact fun _ _ => Or.inl trivial
    iexact HO
  isplitl [Sx]; · iapply (stg_of_held (F := F) c cc0_stg0_0 (xst m ρ c)); iexact Sx
  isplitl [Sr]; · iapply (stg_of_held (F := F) c cc0_stg1_0 (rst m ρ c)); iexact Sr
  isplitl [Su]; · iapply (stg_of_held (F := F) c cc0_stg2_0 (ust m ρ c)); iexact Su
  isplitl [Sv]; · iapply (stg_of_held (F := F) c cc0_stg3_0 (vst m ρ c)); iexact Sv
  iapply (stg_of_held (F := F) c cc0_stg4_0 (outAt m ρ c)); iexact So

/-! ## The run -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cells tokens)

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ dealt m ρ c)
      ⊢ |={Set.univ}=> iprop(start m ρ c ∗ emp) := by
  iintro ⟨-, #Hlev, Hcr, -, HG⟩
  imod (tickets_intro m ρ c) $$ [HG Hcr] with ⟨⟨%K, #HR⟩, Ht, Hu⟩
  · isplitl [HG] <;> iassumption
  imodintro
  isplitl
  · unfold start ctx
    isplitr
    · iexists K
      isplitr; · iexact HR
      iexact Hlev
    isplitl [Ht] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl]
  unfold before₀
  iintro ⟨Hs, -, Hr⟩
  isplitl [Hs]; · iexact Hs
  iapply (slabs_intro (F := F) c); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ m ρ c from rfl, unscoped_eq]
  unfold after₀
  iintro ⟨Hb, Hq, Hs⟩
  isplitl [Hb]; · iexact Hb
  isplitl [Hq]; · iapply (own_intro (F := F) c); iexact Hq
  iapply (stacks_exit m ρ c); iexact Hs

theorem waits (c : Dev nD) : (levAts L lv : sProp 𝕄) ⊢ Pipeline.cellsWaits cfgs (dats m ρ) () 0 c :=
  Pipeline.cellsWaits_intro cfgs (dats m ρ) () 0 c fun w s t => by
    have h0 : ∀ l : List Step, (∀ st ∈ l, 0 < st.level) → (levAts L lv : sProp 𝕄) ⊢ MayWait (c : Thread nD τ) (.dma ((cfg0.win w).sem s)) () (owe c l) := fun l hl =>
      mayWait c _ l fun st hs => lt_of_eq_of_lt (by revert s; revert w; decide) (hl st hs)
    rcases t with ⟨_ | _, ht⟩
    · exact h0 steps (by decide)
    · exact h0 [] (fun st hs => absurd hs (List.not_mem_nil))

/-- What a device's arrays hold at the end. -/
def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- Over any float values and from any memory with zero counters, every fair execution of the kernel on the four devices
    ends, with every device's arrays at the contents stated and every counter back at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := made m ρ) (G' := dealt m ρ) (u₀ := u₀)
    (hu₀ := by
      unfold u₀
      iintro Hu
      ihave H := (ownU_pair _ _) $$ Hu
      icases H with ⟨HP, HX⟩
      imod (fund_net m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Moe

end
-- ==== Proof.Pick.lean ====
/-
  The two greatest entries of a row of eight, as three spellings find them: a maximum and the least position holding it; the same of
  the row with that position masked by −∞; and the first two positions of a stable sort in decreasing order.
-/
module

public import Idealize.ShloMosaic.Lib.Pointwise
public import Idealize.ShloMosaic.Lib.SortPrefix
public import Idealize.ShloMosaic.Lib.SortFacts

@[expose] public section

set_option maxRecDepth 16384

noncomputable section

namespace Cert.Moe

open Idealize.ShloMosaic

/-- Position `p` is the first that holds the greatest entry of `g`. -/
def TopAt (g : Fin 8 → EReal) (p : Fin 8) : Prop := (∀ k, g k ≤ g p) ∧ ∀ k, k < p → g k < g p

/-- The row with position `p` masked. -/
def masked (g : Fin 8 → EReal) (p : Fin 8) (k : Fin 8) : EReal := if k = p then ⊥ else g k

/-- Every row has such a position. -/
theorem exists_topAt (g : Fin 8 → EReal) : ∃ p, TopAt g p := by
  classical
  obtain ⟨q, hq⟩ := Finite.exists_max g
  have hne : (Finset.univ.filter fun k => g k = g q).Nonempty := ⟨q, by simp⟩
  refine ⟨(Finset.univ.filter fun k => g k = g q).min' hne, ?_⟩
  have hp : g ((Finset.univ.filter fun k => g k = g q).min' hne) = g q :=
    (Finset.mem_filter.mp (Finset.min'_mem _ hne)).2
  refine ⟨fun k => (hq k).trans_eq hp.symm, fun k hk => ?_⟩
  rw [hp]
  refine lt_of_le_of_ne (hq k) fun h => ?_
  exact absurd (Finset.min'_le _ k (by simp [h])) (not_le.mpr hk)

/-- The fold of `max` from −∞ is the entry there. -/
theorem TopAt.fold_max {g : Fin 8 → EReal} {p : Fin 8} (h : TopAt g p) : Finset.univ.fold max ⊥ g = g p := by
  refine le_antisymm ?_ ?_
  · exact Finset.fold_max_le (g p) |>.mpr ⟨bot_le, fun k _ => h.1 k⟩
  · exact Finset.le_fold_max (g p) |>.mpr (Or.inr ⟨p, Finset.mem_univ p, le_rfl⟩)

/-- A fold of the signed minimum, read as integers. -/
theorem toInt_fold_minsi (b : BitVec 32) (f : Fin 8 → BitVec 32) :
    (Finset.univ.fold IntOp.minsi b f).toInt = Finset.univ.fold min b.toInt fun k => (f k).toInt := by
  refine (Finset.fold_hom (op := IntOp.minsi) (op' := (min : Int → Int → Int)) (m := BitVec.toInt) fun x y => ?_).symm
  unfold IntOp.minsi
  simp only [BitVec.slt]
  by_cases h : x.toInt < y.toInt
  · rw [if_pos (by simpa using h), min_eq_left h.le]
  · rw [if_neg (by simpa using h), min_eq_right (not_lt.mp h)]

/-- A small natural's word, read as an integer. -/
theorem toInt_small (n : Nat) (h : n ≤ 8) : (BitVec.ofNat 32 n).toInt = n := by
  interval_cases n <;> rfl

/-- The least position that holds the greatest entry, found by a fold of the signed minimum over the positions. -/
theorem TopAt.fold_min {g : Fin 8 → EReal} {p : Fin 8} (h : TopAt g p) (v : EReal) (hv : v = g p) :
    Finset.univ.fold IntOp.minsi 2147483647#32 (fun k => if g k = v then BitVec.ofNat 32 k.val else 8#32)
      = BitVec.ofNat 32 p.val := by
  subst hv
  apply BitVec.eq_of_toInt_eq
  rw [toInt_fold_minsi, toInt_small p.val (by omega)]
  refine le_antisymm ?_ ?_
  · refine Finset.fold_min_le (p.val : Int) |>.mpr (Or.inr ⟨p, Finset.mem_univ p, ?_⟩)
    rw [if_pos rfl, toInt_small p.val (by omega)]
  · refine Finset.le_fold_min (p.val : Int) |>.mpr ⟨?_, fun k _ => ?_⟩
    · have h2 : (2147483647#32 : BitVec 32).toInt = 2147483647 := rfl
      rw [h2]; omega
    · split
      · rename_i hk
        rw [toInt_small k.val (by omega)]
        have : ¬ k < p := fun hlt => absurd (h.2 k hlt) (by rw [hk]; exact lt_irrefl _)
        have : p.val ≤ k.val := by simpa using this
        exact_mod_cast this
      · rw [toInt_small 8 le_rfl]; omega

/-- A select on the equality of two positions' words. -/
theorem select_pos {α : Type} (k p : Fin 8) (a b : α) :
    Scalar.select (IntOp.cmpi .eq (BitVec.ofNat 32 k.val) (BitVec.ofNat 32 p.val)) a b = if k = p then a else b := by
  have hw : (BitVec.ofNat 32 k.val = BitVec.ofNat 32 p.val) ↔ k = p := by
    constructor
    · intro h
      have := congrArg BitVec.toInt h
      rw [toInt_small _ (by omega), toInt_small _ (by omega)] at this
      exact Fin.ext (by exact_mod_cast this)
    · rintro rfl; rfl
  unfold Scalar.select IntOp.cmpi
  by_cases h : k = p
  · subst h; simp
  · have := mt hw.mp h
    have hb : (BitVec.ofNat 32 k.val == BitVec.ofNat 32 p.val) = false := by simpa using this
    simp [h, hb]

/-- In a row of finite entries the masked row's greatest entry sits elsewhere. -/
theorem TopAt.ne_of_masked {g : Fin 8 → EReal} {p q : Fin 8} (hg : ∀ k, g k ≠ ⊥) (h : TopAt (masked g p) q) : q ≠ p := by
  rintro rfl
  have hk : ∀ k, k ≠ q → g k = ⊥ := fun k hk => by
    have := h.1 k
    unfold masked at this
    rw [if_neg hk, if_pos rfl] at this
    exact le_bot_iff.mp this
  by_cases h0 : q = 0
  · exact hg 1 (hk 1 (by rw [h0]; decide))
  · exact hg 0 (hk 0 (Ne.symm h0))

/-! ## The stable sort -/

/-- `a` goes before `b`: a greater key, or the same key at an earlier position. -/
def ahead (g : Fin 8 → EReal) (a b : Fin 8) : Bool := decide (g b < g a) || (decide (g a = g b) && decide (a < b))

/-- The order with ties broken by position is strict and total. -/
theorem ahead_total (g : Fin 8 → EReal) : StrictTotalBefore (ahead g) := by
  refine StrictTotalBefore.of_key_then_position (fun x y : EReal => decide (y < x)) g ?_ ?_ ?_
  · intro x; simp
  · intro x y z; simp only [decide_eq_true_eq]; exact fun h1 h2 => lt_trans h2 h1
  · intro x y; simp only [decide_eq_true_eq]; rcases lt_trichotomy x y with h | h | h <;> simp [h]

/-- A list in increasing order of position is sorted alike by the keys alone and with ties broken by position: the sort is stable. -/
theorem stableSort_ahead (g : Fin 8 → EReal) (l : List (Fin 8)) (hl : l.Pairwise (· < ·)) :
    stableSort (fun a b => decide (g b < g a)) l = stableSort (ahead g) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.mp hb)
    unfold ahead
    simp [not_lt.mpr hab.le]

theorem sortedFrom_ahead (g : Fin 8 → EReal) : sortedFrom (fun a b : Fin 8 => decide (g b < g a)) = sortedFrom (ahead g) := by
  have h : sortPositions 8 (fun a b : Fin 8 => decide (g b < g a)) = sortPositions 8 (ahead g) :=
    stableSort_ahead g _ (List.pairwise_lt_finRange 8)
  funext k
  unfold sortedFrom
  rw [List.get_of_eq h]
  rfl

/-- The sort's first two positions are those of the greatest entry and of the greatest of the others. -/
theorem sorted_two {g : Fin 8 → EReal} {p q : Fin 8} (hg : ∀ k, g k ≠ ⊥) (hp : TopAt g p) (hq : TopAt (masked g p) q) :
    sortedFrom (fun a b : Fin 8 => decide (g b < g a)) 0 = p ∧ sortedFrom (fun a b : Fin 8 => decide (g b < g a)) 1 = q := by
  have hne : q ≠ p := hq.ne_of_masked hg
  have hqv : masked g p q = g q := by unfold masked; rw [if_neg hne]
  have hother : ∀ k, k ≠ p → k ≠ q → ahead g k q = false := fun k hkp hkq => by
    have h1 := hq.1 k
    have h2 := hq.2 k
    rw [hqv] at h1 h2
    unfold masked at h1 h2
    rw [if_neg hkp] at h1 h2
    unfold ahead
    simp only [Bool.or_eq_false_iff, decide_eq_false_iff_not, not_lt, Bool.and_eq_false_imp, decide_eq_true_eq]
    exact ⟨h1, fun he => not_lt.mp fun hlt => absurd (h2 hlt) (by rw [he]; exact lt_irrefl _)⟩
  have htop : ∀ k, k ≠ p → ahead g k p = false := fun k hkp => by
    unfold ahead
    simp only [Bool.or_eq_false_iff, decide_eq_false_iff_not, not_lt, Bool.and_eq_false_imp, decide_eq_true_eq]
    exact ⟨hp.1 k, fun he => not_lt.mp fun hlt => absurd (hp.2 k hlt) (by rw [he]; exact lt_irrefl _)⟩
  have key : ∀ i : Fin 2, sortedFrom (ahead g) (i.castLE (by decide)) = ![p, q] i := fun i => by
    refine (ahead_total g).sortedFrom_eq_of_prefix (by decide : 2 ≤ 8) ![p, q] ?_ ?_ ?_ i
    · intro a b
      fin_cases a <;> fin_cases b <;> simp [hne, Ne.symm hne]
    · intro a b hab
      fin_cases a <;> fin_cases b <;> simp at hab ⊢
      exact htop q hne
    · intro a k hk
      have k0 : k ≠ p := fun h => hk 0 (by simp [h])
      have k1 : k ≠ q := fun h => hk 1 (by simp [h])
      fin_cases a
      · exact htop k k0
      · exact hother k k0 k1
  rw [sortedFrom_ahead]
  exact ⟨key 0, key 1⟩

end Cert.Moe
-- ==== Proof.Weigh.lean ====
/-
  The two weights of a row: the kernel's row of eight (two of them not zero), the reference's pair, and a sum over the eight experts
  that either way keeps the two chosen ones.
-/
module

public import proofs.«01_k».proof.Proof.Pick

@[expose] public section

set_option maxRecDepth 16384

noncomputable section

namespace Cert.Moe

open Idealize.ShloMosaic

/-- Neither infinity. -/
def Tame (x : EReal) : Prop := x ≠ ⊥ ∧ x ≠ ⊤

theorem Tame.real {x : EReal} (h : Tame x) : ∃ r : ℝ, x = r := ⟨x.toReal, (EReal.coe_toReal h.2 h.1).symm⟩

theorem tame_coe (r : ℝ) : Tame (r : EReal) := ⟨EReal.coe_ne_bot r, EReal.coe_ne_top r⟩

/-- A sum of products of finite entries is finite. -/
theorem tame_dot {n : Nat} (a b : Fin n → EReal) (ha : ∀ i, Tame (a i)) (hb : ∀ i, Tame (b i)) : Tame (∑ i, a i * b i) := by
  choose a' ha' using fun i => (ha i).real
  choose b' hb' using fun i => (hb i).real
  have h : ∑ i, a i * b i = ((∑ i, a' i * b' i : ℝ) : EReal) := by
    refine Eq.trans ?_ (map_sum (⟨⟨Real.toEReal, EReal.coe_zero⟩, EReal.coe_add⟩ : ℝ →+ EReal) _ Finset.univ).symm
    exact Finset.sum_congr rfl fun i _ => by rw [ha' i, hb' i]; exact (EReal.coe_mul _ _).symm
  rw [h]; exact tame_coe _

/-- The word of −∞. -/
theorem ofBits_neg_inf : Ideal.ofBits .f32 4286578688#32 = ⊥ := by
  simp [Ideal.ofBits, Ideal.ieee]

/-- The word of +∞. -/
theorem ofBits_pos_inf : Ideal.ofBits .f32 2139095040#32 = ⊤ := by
  simp [Ideal.ofBits, Ideal.ieee]

/-- The second choice's weight against the first's. -/
def ratio (g : Fin 8 → EReal) (p q : Fin 8) : EReal := Ideal.exp (g q - g p)

/-- The weight of expert `e` in a row whose two choices are `p` and `q`. -/
def weightAt (g : Fin 8 → EReal) (p q e : Fin 8) : EReal :=
  Ideal.div ((if e = p then 1 else 0) + (if e = q then ratio g p q else 0)) (1 + ratio g p q)

/-- Between finite entries the ratio is a positive real. -/
theorem ratio_real {g : Fin 8 → EReal} (hg : ∀ k, Tame (g k)) (p q : Fin 8) : ∃ z : ℝ, 0 < z ∧ ratio g p q = z := by
  obtain ⟨a, ha⟩ := (hg p).real
  obtain ⟨b, hb⟩ := (hg q).real
  refine ⟨Real.exp (b - a), Real.exp_pos _, ?_⟩
  unfold ratio
  rw [ha, hb, ← EReal.coe_sub, Ideal.exp_coe]

/-- Only the two choices weigh. -/
theorem weightAt_other {g : Fin 8 → EReal} (hg : ∀ k, Tame (g k)) {p q e : Fin 8} (hp : e ≠ p) (hq : e ≠ q) : weightAt g p q e = 0 := by
  obtain ⟨z, hz, h⟩ := ratio_real hg p q
  unfold weightAt
  rw [if_neg hp, if_neg hq, h, add_zero, ← EReal.coe_one, ← EReal.coe_add, Ideal.div_coe (by positivity), zero_mul]

theorem weightAt_first {g : Fin 8 → EReal} {p q : Fin 8} (hne : q ≠ p) : weightAt g p q p = Ideal.div 1 (1 + ratio g p q) := by
  unfold weightAt
  rw [if_pos rfl, if_neg (Ne.symm hne), add_zero]

theorem weightAt_second {g : Fin 8 → EReal} {p q : Fin 8} (hne : q ≠ p) :
    weightAt g p q q = Ideal.div (ratio g p q) (1 + ratio g p q) := by
  unfold weightAt
  rw [if_neg hne, if_pos rfl, zero_add]

/-- A sum weighted by the row is the two chosen terms. -/
theorem sum_weightAt {g : Fin 8 → EReal} (hg : ∀ k, Tame (g k)) {p q : Fin 8} (hne : q ≠ p) (o : Fin 8 → EReal) :
    ∑ e, o e * weightAt g p q e
      = (∑ e, if p = e then o e * Ideal.div 1 (1 + ratio g p q) else 0)
        + ∑ e, if q = e then o e * Ideal.div (ratio g p q) (1 + ratio g p q) else 0 := by
  rw [← Finset.sum_add_distrib]
  refine Finset.sum_congr rfl fun e _ => ?_
  by_cases hp : p = e
  · subst hp
    rw [if_pos rfl, if_neg hne, add_zero, weightAt_first hne]
  · by_cases hq : q = e
    · subst hq
      rw [if_neg hp, if_pos rfl, zero_add, weightAt_second hne]
    · rw [if_neg hp, if_neg hq, weightAt_other hg (Ne.symm hp) (Ne.symm hq), mul_zero, add_zero]

/-! ## The kernel's row -/

/-- The least position holding the greatest entry, as a word. -/
def firstWord (g : Fin 8 → EReal) : BitVec 32 :=
  Finset.univ.fold IntOp.minsi 2147483647#32 fun k =>
    if g k = Finset.univ.fold max (Ideal.ofBits .f32 4286578688#32) g then BitVec.ofNat 32 k.val else 8#32

/-- The row with that position masked. -/
def maskWord (g : Fin 8 → EReal) (k : Fin 8) : EReal :=
  Scalar.select (IntOp.cmpi .eq (BitVec.ofNat 32 k.val) (firstWord g)) (Ideal.ofBits .f32 4286578688#32) (g k)

/-- The kernel's second weight before it is scaled. -/
def ratioWord (g : Fin 8 → EReal) : EReal :=
  Ideal.exp (Finset.univ.fold max (Ideal.ofBits .f32 4286578688#32) (maskWord g)
    - Finset.univ.fold max (Ideal.ofBits .f32 4286578688#32) g)

/-- The kernel's row of weights. -/
def weightWord (g : Fin 8 → EReal) (e : Fin 8) : EReal :=
  Ideal.div (Scalar.select (IntOp.cmpi .eq (BitVec.ofNat 32 e.val) (firstWord g)) 1 0
      + Scalar.select (IntOp.cmpi .eq (BitVec.ofNat 32 e.val) (firstWord (maskWord g))) (ratioWord g) 0)
    (1 + ratioWord g)

theorem firstWord_eq {g : Fin 8 → EReal} {p : Fin 8} (hp : TopAt g p) : firstWord g = BitVec.ofNat 32 p.val := by
  unfold firstWord
  rw [ofBits_neg_inf]
  exact hp.fold_min _ hp.fold_max

theorem maskWord_eq {g : Fin 8 → EReal} {p : Fin 8} (hp : TopAt g p) : maskWord g = masked g p := by
  funext k
  unfold maskWord masked
  rw [firstWord_eq hp, select_pos, ofBits_neg_inf]

/-- The kernel's row is the weights at the two choices. -/
theorem weightWord_eq {g : Fin 8 → EReal} (hg : ∀ k, Tame (g k)) {p q : Fin 8} (hp : TopAt g p) (hq : TopAt (masked g p) q) (e : Fin 8) :
    weightWord g e = weightAt g p q e := by
  have hne : q ≠ p := hq.ne_of_masked fun k => (hg k).1
  have hr : ratioWord g = ratio g p q := by
    unfold ratioWord ratio
    rw [maskWord_eq hp, ofBits_neg_inf, hp.fold_max, hq.fold_max]
    unfold masked
    rw [if_neg hne]
  unfold weightWord weightAt
  rw [hr, maskWord_eq hp, firstWord_eq hp, firstWord_eq hq, select_pos, select_pos]

/-! ## The reference's pair -/

/-- The pair of weights over a pair of values. -/
def pairWeight (v : Fin 2 → EReal) (i : Fin 2) : EReal :=
  Ideal.div (Ideal.exp (v i - max (v 0) (v 1))) (∑ k, Ideal.exp (v k - max (v 0) (v 1)))

theorem pairWeight_eq {g : Fin 8 → EReal} (hg : ∀ k, Tame (g k)) {p q : Fin 8} (hp : TopAt g p) (v : Fin 2 → EReal)
    (h0 : v 0 = g p) (h1 : v 1 = g q) :
    pairWeight v 0 = Ideal.div 1 (1 + ratio g p q) ∧ pairWeight v 1 = Ideal.div (ratio g p q) (1 + ratio g p q) := by
  have hm : max (v 0) (v 1) = g p := by rw [h0, h1]; exact max_eq_left (hp.1 q)
  have hz : Ideal.exp (v 0 - g p) = 1 := by
    obtain ⟨a, ha⟩ := (hg p).real
    rw [h0, ha, ← EReal.coe_sub, sub_self, Ideal.exp_coe, Real.exp_zero, EReal.coe_one]
  have h1' : Ideal.exp (v 1 - g p) = ratio g p q := by rw [h1]; rfl
  unfold pairWeight
  rw [hm, Fin.sum_univ_two, hz, h1']
  exact ⟨rfl, rfl⟩

end Cert.Moe
-- ==== Proof.Value.lean ====
/-
  The kernel's result over the reals, element by element: the tokens' gates against the whole router, and the sum over devices and over
  their two experts of the expert's output times the gate weight.
-/
module

public import proofs.«01_k».proof.Proof.Launch
public import proofs.«01_k».proof.Proof.Weigh
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe Idealize.SL.Sem
open Idealize.ShloMosaic.Pipeline (Dat)

/-- Row `r`'s gates: its products with the router's columns, two to a device. -/
def gatesOf (x : FVec Ideal S128x512 .f32) (R : Fin 4 → FVec Ideal S512x2 .f32) (r : Fin 128) (k : Fin 8) : EReal :=
  ∑ i : Fin 512, x (ix2 r i) * R ⟨k.val / 2, by omega⟩ (ix2 i ⟨k.val % 2, by omega⟩)

/-- What expert `b` of a device's two makes of row `r`, at column `l`. -/
def expertOf (x : FVec Ideal S128x512 .f32) (U : FVec Ideal S2x512x1024 .f32) (V : FVec Ideal S2x1024x512 .f32) (b : Fin 2)
    (r : Fin 128) (l : Fin 512) : EReal :=
  ∑ f : Fin 1024, max (∑ i : Fin 512, x (ix2 r i) * U (ix3 b i f)) 0 * V (ix3 b f l)

/-- Expert `b` of device `s`. -/
def expertNo (s : Fin 4) (b : Fin 2) : Fin 8 := ⟨2 * s.val + b.val, by omega⟩

/-! ## The payloads at an index -/

theorem pay7_at (A : FVec Ideal S4x512x2 .f32) (i : Fin 512) (k : Fin 8) :
    k0_pay7 (F := Ideal) A (ix2 i k) = A (ix3 (⟨k.val / 2, by omega⟩ : Fin 4) i (⟨k.val % 2, by omega⟩ : Fin 2)) := by
  pointwise [k0_pay7]
  fin_cases k <;> rfl

theorem pay9_at (w : FVec Ideal S512x8 .f32) (x : FVec Ideal S128x512 .f32) (r : Fin 128) (e : Fin 8) :
    k0_pay9 (F := Ideal) w x (constant S128x8 .f32 0x00000000#32) (ix2 r e)
      = weightWord (fun k => ∑ i : Fin 512, x (ix2 r i) * w (ix2 i k)) e := by
  pointwise [k0_pay9]
  rfl

theorem pay32_at (A : FVec Ideal S4x128x512 .bf16) (r : Fin 128) (l : Fin 512) :
    k0_pay32 (F := Ideal) A (ix2 r l) = ∑ s : Fin 4, A (ix3 s r l) := by
  pointwise [k0_pay32]
  rw [Fin.sum_univ_four]

/-- A device's number times two, plus one or none, is its expert's word. -/
theorem word_expert (s : Fin 4) : Scalar.addi (Scalar.muli 2#32 (me s)) 0#32 = BitVec.ofNat 32 (expertNo s 0).val
    ∧ Scalar.addi (Scalar.muli 2#32 (me s)) 1#32 = BitVec.ofNat 32 (expertNo s 1).val := by
  revert s; decide +kernel

/-- A row of weights, selected at one expert and summed, is that expert's weight. -/
theorem sum_select (w : Fin 8 → EReal) (e : Fin 8) :
    ∑ k : Fin 8, Scalar.select (IntOp.cmpi .eq (BitVec.ofNat 32 k.val) (BitVec.ofNat 32 e.val)) (w k) 0 = w e := by
  simp only [select_pos]
  rw [Finset.sum_ite_eq' Finset.univ e w, if_pos (Finset.mem_univ e)]

theorem pay20_at (s : Fin 4) (a b : FVec Ideal S512x1024 .bf16) (c d : FVec Ideal S1024x512 .bf16) (x : FVec Ideal S128x512 .bf16)
    (g : FVec Ideal S128x8 .f32) (r : Fin 128) (l : Fin 512) :
    k0_pay20 (F := Ideal) (me s) a b c d ids x g (Scalar.ofBits .f32 0x00000000#32) (ix3 0 r l)
      = (∑ f : Fin 1024, max (∑ i : Fin 512, x (ix2 r i) * a (ix2 i f)) 0 * c (ix2 f l)) * g (ix2 r (expertNo s 0))
        + (∑ f : Fin 1024, max (∑ i : Fin 512, x (ix2 r i) * b (ix2 i f)) 0 * d (ix2 f l)) * g (ix2 r (expertNo s 1)) := by
  pointwise [k0_pay20, ids]
  rw [(word_expert s).1, (word_expert s).2]
  rw [sum_select (fun k => g (ix2 r k)), sum_select (fun k => g (ix2 r k))]

/-! ## The blocks -/

variable (m : (ℓ : Loc nD τ sig) → Buf (Elt Ideal) ℓ) (ρ : Dev nD → PrngReg)

abbrev X (c : Fin 4) : FVec Ideal S128x512 .f32 := m (((c : Dev nD) : Thread nD τ).loc main_arg0)
abbrev Rt (c : Fin 4) : FVec Ideal S512x2 .f32 := m (((c : Dev nD) : Thread nD τ).loc main_arg1)
abbrev U (c : Fin 4) : FVec Ideal S2x512x1024 .f32 := m (((c : Dev nD) : Thread nD τ).loc main_arg2)
abbrev V (c : Fin 4) : FVec Ideal S2x1024x512 .f32 := m (((c : Dev nD) : Thread nD τ).loc main_arg3)

theorem idx0 : win0_0.index (0 : Fin 1) = ![0, 0] ∧ win0_1.index (0 : Fin 1) = ![0, 0] ∧ win0_2.index (0 : Fin 1) = ![0, 0, 0]
    ∧ win0_3.index (0 : Fin 1) = ![0, 0, 0] ∧ win0_4.index (0 : Fin 1) = ![0, 0] := by decide +kernel

theorem xst_eq (c : Fin 4) : xst m ρ c = X m c := by
  funext j
  blk_ext [xst, s₀, idx0]
theorem rst_eq (c : Fin 4) : rst m ρ c = Rt m c := by
  funext j
  blk_ext [rst, s₀, idx0]
theorem ust_eq (c : Fin 4) : ust m ρ c = U m c := by
  funext j
  blk_ext [ust, s₀, idx0]
theorem vst_eq (c : Fin 4) : vst m ρ c = V m c := by
  funext j
  blk_ext [vst, s₀, idx0]

/-- A stack at an index. -/
theorem stack_at {α : Type} {a b : ℕ} (Y : Fin 4 → (One a b).Idx → α) (s : Fin 4) (i : Fin a) (j : Fin b) :
    stack Y (ix3 s i j) = Y s (ix3 (0 : Fin 1) i j) := by
  show Y s (within (ix3 s i j)) = _
  congr 1
  funext x
  match x with
  | ⟨0, _⟩ => rfl
  | ⟨1, _⟩ => rfl
  | ⟨2, _⟩ => rfl

/-- The tokens as sent are the tokens. -/
theorem tokens_at (s : Fin 4) (r : Fin 128) (i : Fin 512) : k0_pay18 (F := Ideal) (xB m ρ s) (ix2 r i) = X m s (ix2 r i) := by
  unfold xB
  rw [xst_eq]
  pointwise [k0_pay18, k0_pay1]

/-- Where a device's expert `n` of two sits among its two. -/
theorem expert_idx {a b : ℕ} (n : Fin 2) (h : ∀ x, (![n.val, 0, 0] : Fin 3 → ℕ) x + (One a b).size x ≤ (⟨3, ![2, a, b]⟩ : Shape).size x)
    (i : Fin a) (j : Fin b) : (Rect.unit (s := ⟨3, ![2, a, b]⟩) ![n.val, 0, 0] (One a b).size h).idx (ix3 (0 : Fin 1) i j) = ix3 n i j := by
  funext x
  match x with
  | ⟨0, _⟩ => exact Fin.ext (by show n.val + 1 * 0 = n.val; omega)
  | ⟨1, _⟩ => exact Fin.ext (by show 0 + 1 * i.val = i.val; omega)
  | ⟨2, _⟩ => exact Fin.ext (by show 0 + 1 * j.val = j.val; omega)

theorem u0_at (c : Fin 4) (i : Fin 512) (f : Fin 1024) : k0_pay3 (F := Ideal) (u0 m ρ c) (ix2 i f) = U m c (ix3 0 i f) := by
  pointwise [k0_pay3]
  rw [← ust_eq m ρ c]
  exact congrArg (ust m ρ c) (expert_idx 0 _ i f)
theorem u1_at (c : Fin 4) (i : Fin 512) (f : Fin 1024) : k0_pay4 (F := Ideal) (u1 m ρ c) (ix2 i f) = U m c (ix3 1 i f) := by
  pointwise [k0_pay4]
  rw [← ust_eq m ρ c]
  exact congrArg (ust m ρ c) (expert_idx 1 _ i f)
theorem v0_at (c : Fin 4) (f : Fin 1024) (l : Fin 512) : k0_pay5 (F := Ideal) (v0 m ρ c) (ix2 f l) = V m c (ix3 0 f l) := by
  pointwise [k0_pay5]
  rw [← vst_eq m ρ c]
  exact congrArg (vst m ρ c) (expert_idx 0 _ f l)
theorem v1_at (c : Fin 4) (f : Fin 1024) (l : Fin 512) : k0_pay6 (F := Ideal) (v1 m ρ c) (ix2 f l) = V m c (ix3 1 f l) := by
  pointwise [k0_pay6]
  rw [← vst_eq m ρ c]
  exact congrArg (vst m ρ c) (expert_idx 1 _ f l)

/-! ## The result -/

/-- The whole router as the kernel reads it. -/
theorem router_at (i : Fin 512) (k : Fin 8) :
    k0_pay7 (F := Ideal) (rAll m ρ) (ix2 i k) = Rt m ⟨k.val / 2, by omega⟩ (ix2 i ⟨k.val % 2, by omega⟩) := by
  rw [pay7_at]
  refine (stack_at (rB m ρ) _ i _).trans ?_
  unfold rB
  rw [rst_eq]
  pointwise [k0_pay2]

/-- A row of gate weights. -/
theorem weights_at (s : Fin 4) (r : Fin 128) (e : Fin 8) :
    gB m ρ s (ix2 r e) = weightWord (gatesOf (X m s) (Rt m) r) e := by
  unfold gB
  rw [pay9_at]
  congr 1
  funext k
  unfold gatesOf
  refine Finset.sum_congr rfl fun i _ => ?_
  rw [router_at, xst_eq]
  congr 1
  pointwise [k0_pay8]

/-- What device `c`'s experts contribute to row `r` of device `s`. -/
theorem part_at (c s : Fin 4) (r : Fin 128) (l : Fin 512) :
    pB m ρ c s (ix3 0 r l)
      = ∑ b : Fin 2, expertOf (X m s) (U m c) (V m c) b r l * weightWord (gatesOf (X m s) (Rt m) r) (expertNo c b) := by
  unfold pB
  rw [weights_back, pay20_at, weights_at, weights_at, Fin.sum_univ_two]
  unfold expertOf
  simp only [tokens_at, u0_at, u1_at, v0_at, v1_at]

/-- Row `r` of device `c`: every expert's output times its gate weight. -/
def outOf (c : Fin 4) (r : Fin 128) (l : Fin 512) : EReal :=
  ∑ s : Fin 4, ∑ b : Fin 2, expertOf (X m c) (U m s) (V m s) b r l * weightWord (gatesOf (X m c) (Rt m) r) (expertNo s b)

/-- The kernel's result at row `r` of device `c`. -/
theorem out_at (c : Fin 4) (r : Fin 128) (l : Fin 512) :
    outAt m ρ c (ix2 r l) = outOf m c r l := by
  refine (pay32_at (cAll m ρ c) r l).trans ?_
  unfold outOf
  exact Finset.sum_congr rfl fun s _ => (stack_at (fun s => pB m ρ s c) s r l).trans (part_at m ρ s c r l)

/-- The result array after the run. -/
theorem final_out (c : Dev nD) : finalA m ρ c 4 = outAt m ρ c := by
  refine (dats (F := Ideal) m ρ 0 c).arrAt_eq_of_after_last (4 : Fin 5) t₀ (by decide +kernel) _ fun j => ?_
  blk_simp
  rfl

end Cert.Moe
-- ==== Proof.RefOut.lean ====
/-
  The reference's result over the reals, element by element: the sort's two choices of a row, their weights, and the sixteen addends.
-/
module

public import proofs.«01_k».proof.Proof.Gen.ReferenceIdeal.Run
public import proofs.«01_k».proof.Proof.Weigh

@[expose] public section

set_option maxRecDepth 16384

noncomputable section

namespace Cert.MoeRef

open Cert.ReferenceIdeal Cert.ReferenceIdeal.Gen Cert.ReferenceIdeal.Value
open Cert.Moe (TopAt masked ratio Tame pairWeight)
open Idealize.ShloMosaic Idealize.ShloMosaic.TcCoe Idealize.SL.Sem

/-- The two columns the decreasing sort of row `t` keeps. -/
def chosen (g : FVec Ideal S512x8 .f32) (t : Fin 512) (i : Fin 2) : Fin 8 :=
  sortedFrom (fun a b : Fin 8 => decide (g (ix2 t b) < g (ix2 t a))) (i.castLE (by decide))

theorem along_row (t : Fin 512) (j k : Fin 8) : (ix2 t j : S512x8.Idx).along 1 k = ix2 t k := by
  funext x
  match x with
  | ⟨0, _⟩ => rfl
  | ⟨1, _⟩ => rfl

theorem greater_eq (x y : Ideal .f32) : (FloatOps.cmpfTotal .gt x y == 1#1) = decide ((y : EReal) < x) := by
  show (BitVec.ofBool (decide ((y : EReal) < x)) == 1#1) = _
  by_cases h : (y : EReal) < x <;> simp [h]

/-- The sort's order on a row is the decreasing order of its entries. -/
theorem before_eq (g : FVec Ideal S512x8 .f32) (t : Fin 512) (j : Fin 8) :
    (fun k k' : Fin 8 => FloatOps.cmpfTotal .gt (g ((ix2 t j : S512x8.Idx).along 1 k)) (g ((ix2 t j : S512x8.Idx).along 1 k')) == 1#1)
      = fun a b : Fin 8 => decide (g (ix2 t b) < g (ix2 t a)) := by
  funext a b
  exact (greater_eq _ _).trans (by rw [along_row, along_row])

/-- What the reference keeps of a row: two entries, and their columns. -/
theorem topK_at (g : FVec Ideal S512x8 .f32) (h : S512x8.Slices (fun _ => 0) S512x2) (t : Fin 512) (i : Fin 2) :
    (Host.topK S512x2 1 (FloatOps.cmpfTotal .gt) g h).1 (ix2 t i) = g (ix2 t (chosen g t i))
    ∧ (Host.topK S512x2 1 (FloatOps.cmpfTotal .gt) g h).2 (ix2 t i) = BitVec.ofNat 32 (chosen g t i).val := by
  have hs := congrArg (fun B => sortedFrom B (i.castLE (by decide))) (before_eq g t (i.castLE (by decide)))
  unfold Host.topK
  constructor
  · pointwise [Host.sort2]
    exact congrArg g ((along_row t _ _).trans (congrArg (ix2 t) hs))
  · pointwise [Host.sort2]
    exact congrArg (fun k : Fin 8 => BitVec.ofNat 32 k.val) hs

/-- The two weights of a row, from the two entries. -/
def pairOf (v : FVec Ideal S512x2 .f32) : FVec Ideal S512x2 .f32 :=
  Host.exp (subf v (broadcastInDim S512x2 ![0, 1] bcast_S512x1_S512x2_0_1 (broadcastInDim S512x1 ![0] bcast_S512_S512x1_0
    (Host.reduce FloatOps.maximumf v (constant S_ .f32 0xFF800000#32) reducesTo_S512x2_S512_d1 h_S_))))

theorem pairOf_at (v : FVec Ideal S512x2 .f32) (t : Fin 512) (i : Fin 2) :
    pairOf v (ix2 t i) = Ideal.exp (v (ix2 t i) - max (v (ix2 t 0)) (v (ix2 t 1))) := by
  pointwise [pairOf]
  rw [Cert.Moe.ofBits_neg_inf]
  congr 2
  rw [show (Finset.univ : Finset (Fin 2)) = {0, 1} from rfl, Finset.fold_insert (by decide), Finset.fold_singleton, max_bot_right]

section
variable (V0 : Valuation τ sig (Elt Ideal))

abbrev gX : FVec Ideal S512x512 .f32 := V0 (Proc.devRef .tc main_arg0)
abbrev gR : FVec Ideal S512x8 .f32 := V0 (Proc.devRef .tc main_arg1)
abbrev gU : FVec Ideal S8x512x1024 .f32 := V0 (Proc.devRef .tc main_arg2)
abbrev gV : FVec Ideal S8x1024x512 .f32 := V0 (Proc.devRef .tc main_arg3)
abbrev gates : FVec Ideal S512x8 .f32 := res_main_v0 V0
abbrev vals : FVec Ideal S512x2 .f32 := res_main_values V0
abbrev idxs : IVec S512x2 32 := res_main_indices V0
abbrev wts : FVec Ideal S512x2 .f32 := res_main_v9 V0
abbrev sum4 : FVec Ideal S512x512 .f32 := res_main_v74 V0
abbrev sum8 : FVec Ideal S512x512 .f32 := res_main_v138 V0
abbrev sum12 : FVec Ideal S512x512 .f32 := res_main_v202 V0
abbrev out : FVec Ideal S512x512 .f32 := res_main_v266 V0

theorem gates_at (t : Fin 512) (k : Fin 8) : gates V0 (ix2 t k) = ∑ i : Fin 512, gX V0 (ix2 t i) * gR V0 (ix2 i k) := by
  pointwise [res_main_v0]

theorem vals_at (t : Fin 512) (i : Fin 2) : vals V0 (ix2 t i) = gates V0 (ix2 t (chosen (gates V0) t i)) :=
  (topK_at (gates V0) sliceFits_S512x8_S512x2 t i).1

theorem idxs_at (t : Fin 512) (i : Fin 2) : idxs V0 (ix2 t i) = BitVec.ofNat 32 (chosen (gates V0) t i).val :=
  (topK_at (gates V0) sliceFits_S512x8_S512x2 t i).2

theorem wts_at (t : Fin 512) (i : Fin 2) : wts V0 (ix2 t i) = pairWeight (fun k => vals V0 (ix2 t k)) i := by
  have h5 : res_main_v5 V0 = pairOf (vals V0) := rfl
  unfold wts res_main_v9
  rw [h5]
  pointwise []
  unfold pairWeight
  rw [pairOf_at]
  congr 1
  exact Finset.sum_congr rfl fun k _ => pairOf_at _ t k

/-- Expert `e` on row `t`, at column `l`. -/
def expertAt (t : Fin 512) (l : Fin 512) (e : Fin 8) : EReal :=
  ∑ f : Fin 1024, max (∑ i : Fin 512, gX V0 (ix2 t i) * gU V0 (ix3 e i f)) 0 * gV V0 (ix3 e f l)

/-- The addend of choice `i` and expert `e`. -/
def addend (t : Fin 512) (l : Fin 512) (i : Fin 2) (e : Fin 8) : EReal :=
  Scalar.select (IntOp.cmpi .eq (idxs V0 (ix2 t i)) (BitVec.ofNat 32 e.val)) (expertAt V0 t l e * wts V0 (ix2 t i)) 0

theorem addend_eq (t l : Fin 512) (i : Fin 2) (e : Fin 8) :
    addend V0 t l i e = if chosen (gates V0) t i = e then expertAt V0 t l e * wts V0 (ix2 t i) else 0 := by
  unfold addend
  rw [idxs_at, Cert.Moe.select_pos]

/-- The zero that an addend not chosen is. -/
theorem zero_at : (id (constant S_ .f32 0x00000000#32) : FVec Ideal S_ .f32) ix0 = 0 := by
  rw [id_eq]
  pointwise []

theorem sum4_at (t l : Fin 512) :
    sum4 V0 (ix2 t l) = addend V0 t l 0 0 + addend V0 t l 0 1 + addend V0 t l 0 2 + addend V0 t l 0 3 := by
  pointwise [res_main_v74]
  rw [zero_at]
  rfl
theorem sum8_at (t l : Fin 512) :
    sum8 V0 (ix2 t l) = sum4 V0 (ix2 t l) + addend V0 t l 0 4 + addend V0 t l 0 5 + addend V0 t l 0 6 + addend V0 t l 0 7 := by
  pointwise [res_main_v138]
  rw [zero_at]
  rfl
theorem sum12_at (t l : Fin 512) :
    sum12 V0 (ix2 t l) = sum8 V0 (ix2 t l) + addend V0 t l 1 0 + addend V0 t l 1 1 + addend V0 t l 1 2 + addend V0 t l 1 3 := by
  pointwise [res_main_v202]
  rw [zero_at]
  rfl
theorem out_at (t l : Fin 512) :
    out V0 (ix2 t l) = sum12 V0 (ix2 t l) + addend V0 t l 1 4 + addend V0 t l 1 5 + addend V0 t l 1 6 + addend V0 t l 1 7 := by
  pointwise [res_main_v266]
  rw [zero_at]
  rfl

/-- Two runs of eight terms, added one by one. -/
theorem sum_run (a b : Fin 8 → EReal) :
    a 0 + a 1 + a 2 + a 3 + a 4 + a 5 + a 6 + a 7 + b 0 + b 1 + b 2 + b 3 + b 4 + b 5 + b 6 + b 7 = (∑ e, a e) + ∑ e, b e := by
  simp only [Fin.sum_univ_eight, add_assoc]

/-- The reference's result: for each choice, the addends of the eight experts. -/
theorem out_sum (t l : Fin 512) : out V0 (ix2 t l) = (∑ e, addend V0 t l 0 e) + ∑ e, addend V0 t l 1 e := by
  rw [out_at, sum12_at, sum8_at, sum4_at]
  exact sum_run (addend V0 t l 0) (addend V0 t l 1)

/-- In a row of finite gates the two choices are the greatest and the greatest of the others, and the result is their experts' outputs
    weighted by the pair. -/
theorem out_eq (t l : Fin 512) (hg : ∀ k, Tame (gates V0 (ix2 t k))) {p q : Fin 8} (hp : TopAt (fun k => gates V0 (ix2 t k)) p)
    (hq : TopAt (masked (fun k => gates V0 (ix2 t k)) p) q) :
    out V0 (ix2 t l) = ∑ e, expertAt V0 t l e * Cert.Moe.weightAt (fun k => gates V0 (ix2 t k)) p q e := by
  obtain ⟨h0, h1⟩ := Cert.Moe.sorted_two (fun k => (hg k).1) hp hq
  have c0 : chosen (gates V0) t 0 = p := h0
  have c1 : chosen (gates V0) t 1 = q := h1
  obtain ⟨w0, w1⟩ := Cert.Moe.pairWeight_eq (q := q) hg hp (fun k => vals V0 (ix2 t k))
    (by show vals V0 (ix2 t 0) = _; rw [vals_at, c0]) (by show vals V0 (ix2 t 1) = _; rw [vals_at, c1])
  rw [Cert.Moe.sum_weightAt hg (hq.ne_of_masked fun k => (hg k).1), out_sum]
  simp only [addend_eq, c0, c1, wts_at, w0, w1]

end

end Cert.MoeRef
-- ==== Proof.Equal.lean ====
/-
  The two results are equal: on each device the kernel's output block is the reference's rows of that device, when the tokens and the
  router have no infinite entry.
-/
module

public import proofs.«01_k».proof.Defs
public import proofs.«01_k».proof.Proof.Value
public import proofs.«01_k».proof.Proof.RefOut
public import Idealize.ShloMosaic.Lib.ReduceAll
public import Idealize.ShloMosaic.Lib.Layout

@[expose] public section

set_option maxRecDepth 16384

noncomputable section

namespace Cert.Equal

open Cert.Moe Idealize.ShloMosaic Idealize.ShloMosaic.TcCoe Idealize.SL.Sem Idealize.ShloMosaic.StableHlo

/-- The precondition's own side conditions, at one device's shapes and at the whole arrays'. -/
theorem preFacts : Cert.Pre_finite_gating_KernelIdeal.Facts where
  bcast_S_S128x512 := by decide
  reducesTo_S128x512_S_d0_1 := by decide
  h_S_ := by decide
  bcast_S_S512x2 := by decide
  reducesTo_S512x2_S_d0_1 := by decide

theorem preFactsWhole : Cert.Pre_finite_gating_ReferenceIdeal.Facts where
  bcast_S_S512x512 := by decide
  reducesTo_S512x512_S_d0_1 := by decide
  h_S_ := by decide
  bcast_S_S512x8 := by decide
  reducesTo_S512x8_S_d0_1 := by decide

/-- A value of magnitude below plus infinity is finite. -/
theorem tame_of_lt (x : EReal) (h : Ideal.cmp .olt (max x (-x)) ⊤ = 1#1) : Tame x := by
  have hlt : max x (-x) < ⊤ := by
    by_contra hn
    rw [Ideal.cmp, decide_eq_false hn] at h
    exact absurd h (by decide)
  rw [max_lt_iff] at hlt
  refine ⟨?_, hlt.1.ne⟩
  rintro rfl
  exact absurd hlt.2 (by simp)

/-- An array all of whose entries pass the comparison has finite entries. -/
theorem tame_of_all {s : Shape} (y : FVec Ideal s .f32) (b : (⟨0, ![]⟩ : Shape).BroadcastsInDim s (![] : Fin 0 → Fin s.rank))
    (i : s.Idx)
    (h : cmpf .olt (Host.absf y) (broadcastInDim s ![] b (constant (F := Ideal) ⟨0, ![]⟩ .f32 0x7F800000#32)) i = 1#1) : Tame (y i) := by
  refine tame_of_lt (y i) ?_
  rw [← ofBits_pos_inf]
  exact h

/-- What the precondition says of one device's tokens and router columns. -/
theorem tame_of_pre [Cert.Pre_finite_gating_KernelIdeal.Facts] (x : FVec Ideal ⟨2, ![128, 512]⟩ .f32) (R : FVec Ideal ⟨2, ![512, 2]⟩ .f32)
    (u : FVec Ideal ⟨3, ![2, 512, 1024]⟩ .f32) (v : FVec Ideal ⟨3, ![2, 1024, 512]⟩ .f32)
    (h : Cert.Pre_finite_gating_KernelIdeal.fn (F := Ideal) x R u v = fun _ => 1#1) :
    (∀ i, Tame (x i)) ∧ ∀ i, Tame (R i) := by
  have : Subsingleton (Shape.Idx ⟨0, ![]⟩) := ⟨fun a b => funext fun k => k.elim0⟩
  obtain ⟨ha, hb⟩ := IntOp.andi_eq_one.1 (congrFun h ix0)
  exact ⟨fun i => tame_of_all x _ i (Host.reduce_andi_all _ _ _ _ _ ha i), fun i => tame_of_all R _ i (Host.reduce_andi_all _ _ _ _ _ hb i)⟩

section
variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal))

/-- Row `r` of device `c` among all rows. -/
def row (c : Fin 4) (r : Fin 128) : Fin 512 := ⟨c.val * 128 + r.val, by omega⟩

/-- The devices' arrays are the parts of the whole ones. -/
structure Split : Prop where
  x : ∀ c : Fin 4, X m c = Layout.block ⟨2, ![128, 512]⟩ ⟨2, ![512, 512]⟩ 0 4 c (MoeRef.gX V0)
  r : ∀ c : Fin 4, Rt m c = Layout.block ⟨2, ![512, 2]⟩ ⟨2, ![512, 8]⟩ 1 4 c (MoeRef.gR V0)
  u : ∀ c : Fin 4, U m c = Layout.block ⟨3, ![2, 512, 1024]⟩ ⟨3, ![8, 512, 1024]⟩ 0 4 c (MoeRef.gU V0)
  v : ∀ c : Fin 4, V m c = Layout.block ⟨3, ![2, 1024, 512]⟩ ⟨3, ![8, 1024, 512]⟩ 0 4 c (MoeRef.gV V0)

variable {m V0} (S : Split m V0)
include S

theorem x_at (c : Fin 4) (r : Fin 128) (i : Fin 512) : X m c (ix2 r i) = MoeRef.gX V0 (ix2 (row c r) i) := by
  rw [S.x c, Layout.block_apply]
  refine congrArg (MoeRef.gX V0) (funext fun b => ?_)
  fin_cases b <;> rfl

theorem r_at (k : Fin 8) (i : Fin 512) :
    Rt m ⟨k.val / 2, by omega⟩ (ix2 i ⟨k.val % 2, Nat.mod_lt _ (by decide)⟩) = MoeRef.gR V0 (ix2 i k) := by
  rw [S.r, Layout.block_apply]
  refine congrArg (MoeRef.gR V0) (funext fun b => ?_)
  fin_cases b
  · rfl
  · exact Fin.ext (Nat.div_add_mod' k.val 2)

theorem u_at (s : Fin 4) (b : Fin 2) (i : Fin 512) (f : Fin 1024) : U m s (ix3 b i f) = MoeRef.gU V0 (ix3 (expertNo s b) i f) := by
  rw [S.u, Layout.block_apply]
  refine congrArg (MoeRef.gU V0) (funext fun a => ?_)
  fin_cases a
  · exact Fin.ext (congrArg (· + b.val) (Nat.mul_comm s.val 2))
  · rfl
  · rfl

theorem v_at (s : Fin 4) (b : Fin 2) (f : Fin 1024) (l : Fin 512) : V m s (ix3 b f l) = MoeRef.gV V0 (ix3 (expertNo s b) f l) := by
  rw [S.v, Layout.block_apply]
  refine congrArg (MoeRef.gV V0) (funext fun a => ?_)
  fin_cases a
  · exact Fin.ext (congrArg (· + b.val) (Nat.mul_comm s.val 2))
  · rfl
  · rfl

/-- A device's gates are the reference's on the device's rows. -/
theorem gates_eq (c : Fin 4) (r : Fin 128) : gatesOf (X m c) (Rt m) r = fun k => MoeRef.gates V0 (ix2 (row c r) k) := by
  funext k
  rw [MoeRef.gates_at]
  exact Finset.sum_congr rfl fun i _ => congrArg₂ (· * · : EReal → EReal → EReal) (x_at S c r i) (r_at S k i)

/-- A device's expert is the reference's expert of that number. -/
theorem expert_eq (c s : Fin 4) (b : Fin 2) (r : Fin 128) (l : Fin 512) :
    expertOf (X m c) (U m s) (V m s) b r l = MoeRef.expertAt V0 (row c r) l (expertNo s b) :=
  Finset.sum_congr rfl fun f _ => congrArg₂ (· * · : EReal → EReal → EReal)
    (congrArg (max · (0 : EReal)) (Finset.sum_congr rfl fun i _ => congrArg₂ (· * · : EReal → EReal → EReal) (x_at S c r i) (u_at S s b i f)))
    (v_at S s b f l)

omit S in
/-- The four devices' two experts each are the eight experts. -/
theorem sum_experts (f : Fin 8 → EReal) : ∑ s : Fin 4, ∑ b : Fin 2, f (expertNo s b) = ∑ e, f e := by
  simp only [Fin.sum_univ_four, Fin.sum_univ_two, Fin.sum_univ_eight, ← add_assoc]
  rfl

/-- The two outputs agree on every row whose gates are finite. -/
theorem out_eq (hx : ∀ c i, Tame (X m c i)) (hr : ∀ c i, Tame (Rt m c i)) (c : Fin 4) (r : Fin 128) (l : Fin 512) :
    outOf m c r l = MoeRef.out V0 (ix2 (row c r) l) := by
  have hg : ∀ k, Tame (gatesOf (X m c) (Rt m) r k) := fun k => tame_dot _ _ (fun i => hx c _) (fun i => hr _ _)
  rw [gates_eq S c r] at hg
  obtain ⟨p, hp⟩ := exists_topAt (fun k => MoeRef.gates V0 (ix2 (row c r) k))
  obtain ⟨q, hq⟩ := exists_topAt (masked (fun k => MoeRef.gates V0 (ix2 (row c r) k)) p)
  rw [MoeRef.out_eq V0 (row c r) l hg hp hq, ← sum_experts]
  refine Finset.sum_congr rfl fun s _ => Finset.sum_congr rfl fun b _ => ?_
  rw [expert_eq S, gates_eq S c r, weightWord_eq hg hp hq]

end

/-- The equation of the two programs. -/
theorem algebraic [Cert.Pre_finite_gating_KernelIdeal.Facts] : Cert.algebraic_KernelIdeal_ReferenceIdeal_pre_finite_gating_KernelIdeal := by
  intro m g m' g' hpre hb
  have S : Split m (launchContents m' 0) := ⟨fun c => (hb c).1, fun c => (hb c).2.1, fun c => (hb c).2.2.1, fun c => (hb c).2.2.2⟩
  have ht := fun c : Dev Cert.KernelIdeal.nD => tame_of_pre _ _ _ _ (hpre c)
  refine ⟨Cert.ReferenceIdeal.Value.res_main_v266 (launchContents m' 0), (θ_run Cert.KernelIdeal.defs _ _).mono (fun r h c => ?_) (run_main m g),
    (θ_run Cert.ReferenceIdeal.defs _ _).mono (fun r h => h 0) (Cert.ReferenceIdeal.Value.run m' g')⟩
  refine ⟨((h.1 c (4 : Fin 5)).trans (final_out m g c)).trans ?_,
    (h.1 c (0 : Fin 5)).trans (finalA_in m g c (0 : Fin 5) rfl), (h.1 c (1 : Fin 5)).trans (finalA_in m g c (1 : Fin 5) rfl),
    (h.1 c (2 : Fin 5)).trans (finalA_in m g c (2 : Fin 5) rfl), (h.1 c (3 : Fin 5)).trans (finalA_in m g c (3 : Fin 5) rfl)⟩
  funext j
  obtain ⟨a, b, rfl⟩ : ∃ (a : Fin 128) (b : Fin 512), j = ix2 a b := ⟨j 0, j 1, funext fun k => by fin_cases k <;> rfl⟩
  refine (out_at m g c a b).trans ((out_eq S (fun c => (ht c).1) (fun c => (ht c).2) c a b).trans (congrArg (MoeRef.out (launchContents m' 0)) (funext fun k => ?_)))
  fin_cases k <;> rfl

end Cert.Equal

end
-- ==== Proof.lean ====
/- The claims: the frames of the kernel and of its idealization, from one run over any float values; the reference's frame
   from its generated run; and the equation of the two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Over any float values the run keeps the four arguments and leaves every counter at zero. -/
theorem frames {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (Cert.Moe.finalA_in m ρ c (0 : Fin 5) rfl), (h.1 c (1 : Fin 5)).trans (Cert.Moe.finalA_in m ρ c (1 : Fin 5) rfl),
      (h.1 c (2 : Fin 5)).trans (Cert.Moe.finalA_in m ρ c (2 : Fin 5) rfl), (h.1 c (3 : Fin 5)).trans (Cert.Moe.finalA_in m ρ c (3 : Fin 5) rfl)⟩, h.2⟩)
    (Cert.Moe.run_main m ρ)

/-- The two programs' body tables are the same text. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The kernel's own run, at the machine's float values. -/
theorem frame_kernel : Cert.quiescent_Kernel := fun m ρ _ => by
  have hd : Cert.Kernel.defs (F := Bits) = Cert.KernelIdeal.defs (F := Bits) := congrArg (Pipeline.defs Cert.KernelIdeal.pcfgs) bodies_eq
  rw [hd]
  exact frames (F := Bits) m ρ

/-- The same run over the extended reals. -/
theorem frame_ideal : Cert.quiescent_KernelIdeal := fun m ρ _ => frames (F := Ideal) m ρ

/-- The reference runs on one device and declares no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim :=
  have hk := Cert.Equal.preFacts
  have hr := Cert.Equal.preFactsWhole
  ⟨Cert.Kernel.Gen.facts, Cert.KernelIdeal.Gen.facts, Cert.ReferenceIdeal.Gen.facts, hk, hr, frame_kernel, frame_ideal,
    fun m ρ _ => frames (F := Ideal) m ρ, frame_reference, fun m ρ _ => frame_reference m ρ trivial, trivial, Cert.Equal.algebraic⟩

end Cert.Proof

end
